-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_nested [hPre_nested : Cert.Pre_nested.Facts] (m : (ℓ : Loc Cert.KernelIdeal.nD Cert.KernelIdeal.τ Cert.KernelIdeal.sig) → Buf (Elt Ideal) ℓ) : Prop :=
  ∀ c : Dev Cert.KernelIdeal.nD,
    (Cert.Pre_nested.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_nested [hPre_nested : Cert.Pre_nested.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_nested.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_nested [hKernelIdeal : Cert.KernelIdeal.Facts] [hPre_nested : Cert.Pre_nested.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_nested m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_nested [hReferenceIdeal : Cert.ReferenceIdeal.Facts] [hPre_nested : Cert.Pre_nested.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_nested m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_nested [hKernelIdeal : Cert.KernelIdeal.Facts] [hReferenceIdeal : Cert.ReferenceIdeal.Facts] [hPre_nested : Cert.Pre_nested.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_nested m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)) (v1 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_v4) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_v14) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_nested : Cert.Pre_nested.Facts),
    quiescent_Kernel (hKernel := hKernel)
    ∧ quiescent_KernelIdeal (hKernelIdeal := hKernelIdeal)
    ∧ quiescent_KernelIdeal_pre_nested (hKernelIdeal := hKernelIdeal) (hPre_nested := hPre_nested)
    ∧ quiescent_ReferenceIdeal (hReferenceIdeal := hReferenceIdeal)
    ∧ quiescent_ReferenceIdeal_pre_nested (hReferenceIdeal := hReferenceIdeal) (hPre_nested := hPre_nested)
    ∧ preserves_Kernel_KernelIdeal
    ∧ algebraic_KernelIdeal_ReferenceIdeal_pre_nested (hKernelIdeal := hKernelIdeal) (hReferenceIdeal := hReferenceIdeal) (hPre_nested := hPre_nested)
-- ==== Pre_nested.lean ====
abbrev S2x196608x128 : Shape := ⟨3, ![2, 196608, 128]⟩
abbrev S2x196608x1 : Shape := ⟨3, ![2, 196608, 1]⟩
abbrev S49152x4 : Shape := ⟨2, ![49152, 4]⟩
abbrev S196608 : Shape := ⟨1, ![196608]⟩
abbrev S_ : Shape := ⟨0, ![]⟩

class Facts : Prop where
  shapeCasts_S196608_S49152x4 : S196608.ShapeCasts S49152x4
  reducesTo_S49152x4_S_d0_1 : S49152x4.ReducesTo [0, 1] S_
  h_S_ : 0 < S_.numel

variable [Facts]

def fn {F : FTy → Type} [FloatOps F] (main_arg0 : FVec F S2x196608x128 .f32) (main_arg1 : FVec F S2x196608x1 .f32) (main_arg2 : IVec S49152x4 32) : IVec S_ 1 :=
  let main_v0 : IVec S196608 32 := iotaInDim S196608 32 0
  let main_v1 : IVec S49152x4 32 := shapeCast S49152x4 main_v0 shapeCasts_S196608_S49152x4
  let main_v2 : IVec S49152x4 1 := cmpi .eq main_arg2 main_v1
  let main_c : IVec S_ 1 := constantI S_ 1 1#1
  let main_v3 : IVec S_ 1 := (fun x v => Host.reduce IntOp.andi x v reducesTo_S49152x4_S_d0_1 h_S_) main_v2 main_c
  main_v3
-- ==== Kernel.lean ====
abbrev S2x196608x128 : Shape := ⟨3, ![2, 196608, 128]⟩
abbrev S2x196608x1 : Shape := ⟨3, ![2, 196608, 1]⟩
abbrev S49152x4 : Shape := ⟨2, ![49152, 4]⟩
abbrev S393216x128 : Shape := ⟨2, ![393216, 128]⟩
abbrev S393216 : Shape := ⟨1, ![393216]⟩
abbrev S98304x128 : Shape := ⟨2, ![98304, 128]⟩
abbrev S98304 : Shape := ⟨1, ![98304]⟩
abbrev S512x128 : Shape := ⟨2, ![512, 128]⟩
abbrev S528 : Shape := ⟨1, ![528]⟩
abbrev S128x128 : Shape := ⟨2, ![128, 128]⟩
abbrev S128 : Shape := ⟨1, ![128]⟩
abbrev S16 : Shape := ⟨1, ![16]⟩
abbrev S_ : Shape := ⟨0, ![]⟩
abbrev S512 : Shape := ⟨1, ![512]⟩
abbrev S1 : Shape := ⟨1, ![1]⟩
abbrev S1x16 : Shape := ⟨2, ![1, 16]⟩
abbrev S2x49152x128 : Shape := ⟨3, ![2, 49152, 128]⟩
abbrev S2x49152x1 : Shape := ⟨3, ![2, 49152, 1]⟩

abbrev nBuf : Table → Nat
  | .hbm => 9
  | .local .scVector .vmem => 4
  | _ => 0

abbrev bufTy : (tb : Table) → Fin (nBuf tb) → BufTy
  | .hbm, ⟨0, _⟩ => ⟨S2x196608x128, .f32⟩
  | .hbm, ⟨1, _⟩ => ⟨S2x196608x1, .f32⟩
  | .hbm, ⟨2, _⟩ => ⟨S49152x4, .i32⟩
  | .hbm, ⟨3, _⟩ => ⟨S393216x128, .f32⟩
  | .hbm, ⟨4, _⟩ => ⟨S393216, .f32⟩
  | .hbm, ⟨5, _⟩ => ⟨S98304x128, .f32⟩
  | .hbm, ⟨6, _⟩ => ⟨S98304, .f32⟩
  | .hbm, ⟨7, _⟩ => ⟨S2x49152x128, .f32⟩
  | .hbm, ⟨8, _⟩ => ⟨S2x49152x1, .f32⟩
  | .local .scVector .vmem, ⟨0, _⟩ => ⟨S512x128, .f32⟩
  | .local .scVector .vmem, ⟨1, _⟩ => ⟨S528, .f32⟩
  | .local .scVector .vmem, ⟨2, _⟩ => ⟨S128x128, .f32⟩
  | .local .scVector .vmem, ⟨3, _⟩ => ⟨S128, .f32⟩
  | _, _ => ⟨S2x196608x128, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 4 → Bool
  | ⟨0, _⟩ => false
  | ⟨1, _⟩ => false
  | ⟨2, _⟩ => false
  | ⟨3, _⟩ => false
  | _ => false

abbrev sig : RefSig :=
  ofTables nBuf rfl bufTy 4 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v3 : Ref sig .tc := ⟨.hbm, 7, rfl⟩
abbrev main_v4 : Ref sig .tc := ⟨.hbm, 8, rfl⟩
abbrev main_v0_scv : Ref sig .scVector := ⟨.hbm, 3, rfl⟩
abbrev main_v1_scv : Ref sig .scVector := ⟨.hbm, 4, rfl⟩
abbrev main_v2_0_scv : Ref sig .scVector := ⟨.hbm, 5, rfl⟩
abbrev main_v2_1_scv : Ref sig .scVector := ⟨.hbm, 6, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_0 : BitVec 32 := 0#32
  let c24_i32 : BitVec 32 := 24#32
  let v4 : BitVec 32 := Scalar.addi c0_i32_0 c24_i32
  let c1_i32 : BitVec 32 := 1#32
  ⟨c0_i32_0, v4, c1_i32⟩
def k0_off1 (i : grid0.Coords) (k0_t1 : Fin k0_t1_loop.trips) : Fin 2 → Nat :=
  let c4_i32 : BitVec 32 := 4#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3072_i32 : BitVec 32 := 3072#32
  let v2 : BitVec 32 := Scalar.muli v1 c3072_i32
  let c0_i32_0 : BitVec 32 := 0#32
  let c1_i32 : BitVec 32 := 1#32
  let arg10 : BitVec 32 := Scf.iv c0_i32_0 c1_i32 k0_t1
  let c128_i32 : BitVec 32 := 128#32
  let v6 : BitVec 32 := Scalar.muli arg10 c128_i32
  let v7 : BitVec 32 := Scalar.addi v2 v6
  let v8 : BitVec 32 := Scalar.muli c4_i32 v7
  let c0_i32_12_r0 : BitVec 32 := 0#32
  ![v8.toNat, 0]
def k0_off2 (i : grid0.Coords) (k0_t1 : Fin k0_t1_loop.trips) : Fin 1 → Nat :=
  let c4_i32 : BitVec 32 := 4#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3072_i32 : BitVec 32 := 3072#32
  let v2 : BitVec 32 := Scalar.muli v1 c3072_i32
  let c0_i32_0 : BitVec 32 := 0#32
  let c1_i32 : BitVec 32 := 1#32
  let arg10 : BitVec 32 := Scf.iv c0_i32_0 c1_i32 k0_t1
  let c128_i32 : BitVec 32 := 128#32
  let v6 : BitVec 32 := Scalar.muli arg10 c128_i32
  let v7 : BitVec 32 := Scalar.addi v2 v6
  let v8 : BitVec 32 := Scalar.muli c4_i32 v7
  ![v8.toNat]
@[reducible] def k0_t2_loop : Scf.Loop 32 :=
  let c0_i32_3 : BitVec 32 := 0#32
  let c8_i32 : BitVec 32 := 8#32
  let v9 : BitVec 32 := Scalar.addi c0_i32_3 c8_i32
  let c1_i32_4 : BitVec 32 := 1#32
  ⟨c0_i32_3, v9, c1_i32_4⟩
def k0_off3 (k0_t2 : Fin k0_t2_loop.trips) (c0_i32_12 : BitVec 32) : Fin 1 → Nat :=
  let c0_i32_3 : BitVec 32 := 0#32
  let c1_i32_4 : BitVec 32 := 1#32
  let arg12 : BitVec 32 := Scf.iv c0_i32_3 c1_i32_4 k0_t2
  let c64_i32 : BitVec 32 := 64#32
  let v13 : BitVec 32 := Scalar.muli arg12 c64_i32
  let v15 : BitVec 32 := Scalar.addi v13 c0_i32_12
  let v16 : Index := Scalar.indexCast v15
  ![v16.toNat]
def k0_off4 (k0_t2 : Fin k0_t2_loop.trips) : Fin 1 → Nat :=
  let c0_i32_3 : BitVec 32 := 0#32
  let c1_i32_4 : BitVec 32 := 1#32
  let arg12 : BitVec 32 := Scf.iv c0_i32_3 c1_i32_4 k0_t2
  let c16_i32_34 : BitVec 32 := 16#32
  let v287 : BitVec 32 := Scalar.muli arg12 c16_i32_34
  let v288 : Index := Scalar.indexCast v287
  ![v288.toNat]
@[reducible] def k0_t3_loop : Scf.Loop 32 :=
  let c0_i32_7 : BitVec 32 := 0#32
  let c128_i32_8 : BitVec 32 := 128#32
  let v11 : BitVec 32 := Scalar.addi c0_i32_7 c128_i32_8
  let c1_i32_9 : BitVec 32 := 1#32
  ⟨c0_i32_7, v11, c1_i32_9⟩
def k0_off5 (k0_t3 : Fin k0_t3_loop.trips) : Fin 1 → Nat :=
  let c4_i32_12 : BitVec 32 := 4#32
  let c0_i32_7 : BitVec 32 := 0#32
  let c1_i32_9 : BitVec 32 := 1#32
  let arg12 : BitVec 32 := Scf.iv c0_i32_7 c1_i32_9 k0_t3
  let v13 : BitVec 32 := Scalar.muli c4_i32_12 arg12
  let v14 : Index := Scalar.indexCast v13
  ![v14.toNat]
def k0_off6 (k0_t3 : Fin k0_t3_loop.trips) : Fin 2 → Nat :=
  let c4_i32_12 : BitVec 32 := 4#32
  let c0_i32_7 : BitVec 32 := 0#32
  let c1_i32_9 : BitVec 32 := 1#32
  let arg12 : BitVec 32 := Scf.iv c0_i32_7 c1_i32_9 k0_t3
  let v13 : BitVec 32 := Scalar.muli c4_i32_12 arg12
  let v33 : Index := Scalar.indexCast v13
  let c0 : Index := 0#32
  ![v33.toNat, 0]
def k0_off7 (k0_t3 : Fin k0_t3_loop.trips) (c1_i32_14 : BitVec 32) : Fin 2 → Nat :=
  let c4_i32_12 : BitVec 32 := 4#32
  let c0_i32_7 : BitVec 32 := 0#32
  let c1_i32_9 : BitVec 32 := 1#32
  let arg12 : BitVec 32 := Scf.iv c0_i32_7 c1_i32_9 k0_t3
  let v13 : BitVec 32 := Scalar.muli c4_i32_12 arg12
  let v38 : BitVec 32 := Scalar.addi v13 c1_i32_14
  let v39 : Index := Scalar.indexCast v38
  let c0_15 : Index := 0#32
  ![v39.toNat, 0]
def k0_off8 (k0_t3 : Fin k0_t3_loop.trips) : Fin 2 → Nat :=
  let c0_i32_7 : BitVec 32 := 0#32
  let c1_i32_9 : BitVec 32 := 1#32
  let arg12 : BitVec 32 := Scf.iv c0_i32_7 c1_i32_9 k0_t3
  let v60 : Index := Scalar.indexCast arg12
  let c0_19 : Index := 0#32
  ![v60.toNat, 0]
def k0_off9 (k0_t3 : Fin k0_t3_loop.trips) : Fin 2 → Nat :=
  let c4_i32_12 : BitVec 32 := 4#32
  let c0_i32_7 : BitVec 32 := 0#32
  let c1_i32_9 : BitVec 32 := 1#32
  let arg12 : BitVec 32 := Scf.iv c0_i32_7 c1_i32_9 k0_t3
  let v13 : BitVec 32 := Scalar.muli c4_i32_12 arg12
  let v64 : Index := Scalar.indexCast v13
  let c16 : Index := 16#32
  ![v64.toNat, 16]
def k0_off10 (k0_t3 : Fin k0_t3_loop.trips) (c1_i32_20 : BitVec 32) : Fin 2 → Nat :=
  let c4_i32_12 : BitVec 32 := 4#32
  let c0_i32_7 : BitVec 32 := 0#32
  let c1_i32_9 : BitVec 32 := 1#32
  let arg12 : BitVec 32 := Scf.iv c0_i32_7 c1_i32_9 k0_t3
  let v13 : BitVec 32 := Scalar.muli c4_i32_12 arg12
  let v69 : BitVec 32 := Scalar.addi v13 c1_i32_20
  let v70 : Index := Scalar.indexCast v69
  let c16_21 : Index := 16#32
  ![v70.toNat, 16]
def k0_off11 (k0_t3 : Fin k0_t3_loop.trips) : Fin 2 → Nat :=
  let c0_i32_7 : BitVec 32 := 0#32
  let c1_i32_9 : BitVec 32 := 1#32
  let arg12 : BitVec 32 := Scf.iv c0_i32_7 c1_i32_9 k0_t3
  let v91 : Index := Scalar.indexCast arg12
  let c16_26 : Index := 16#32
  ![v91.toNat, 16]
def k0_off12 (k0_t3 : Fin k0_t3_loop.trips) : Fin 2 → Nat :=
  let c4_i32_12 : BitVec 32 := 4#32
  let c0_i32_7 : BitVec 32 := 0#32
  let c1_i32_9 : BitVec 32 := 1#32
  let arg12 : BitVec 32 := Scf.iv c0_i32_7 c1_i32_9 k0_t3
  let v13 : BitVec 32 := Scalar.muli c4_i32_12 arg12
  let v95 : Index := Scalar.indexCast v13
  let c32 : Index := 32#32
  ![v95.toNat, 32]
def k0_off13 (k0_t3 : Fin k0_t3_loop.trips) (c1_i32_27 : BitVec 32) : Fin 2 → Nat :=
  let c4_i32_12 : BitVec 32 := 4#32
  let c0_i32_7 : BitVec 32 := 0#32
  let c1_i32_9 : BitVec 32 := 1#32
  let arg12 : BitVec 32 := Scf.iv c0_i32_7 c1_i32_9 k0_t3
  let v13 : BitVec 32 := Scalar.muli c4_i32_12 arg12
  let v100 : BitVec 32 := Scalar.addi v13 c1_i32_27
  let v101 : Index := Scalar.indexCast v100
  let c32_28 : Index := 32#32
  ![v101.toNat, 32]
def k0_off14 (k0_t3 : Fin k0_t3_loop.trips) : Fin 2 → Nat :=
  let c0_i32_7 : BitVec 32 := 0#32
  let c1_i32_9 : BitVec 32 := 1#32
  let arg12 : BitVec 32 := Scf.iv c0_i32_7 c1_i32_9 k0_t3
  let v122 : Index := Scalar.indexCast arg12
  let c32_33 : Index := 32#32
  ![v122.toNat, 32]
def k0_off15 (k0_t3 : Fin k0_t3_loop.trips) : Fin 2 → Nat :=
  let c4_i32_12 : BitVec 32 := 4#32
  let c0_i32_7 : BitVec 32 := 0#32
  let c1_i32_9 : BitVec 32 := 1#32
  let arg12 : BitVec 32 := Scf.iv c0_i32_7 c1_i32_9 k0_t3
  let v13 : BitVec 32 := Scalar.muli c4_i32_12 arg12
  let v126 : Index := Scalar.indexCast v13
  let c48 : Index := 48#32
  ![v126.toNat, 48]
def k0_off16 (k0_t3 : Fin k0_t3_loop.trips) (c1_i32_34 : BitVec 32) : Fin 2 → Nat :=
  let c4_i32_12 : BitVec 32 := 4#32
  let c0_i32_7 : BitVec 32 := 0#32
  let c1_i32_9 : BitVec 32 := 1#32
  let arg12 : BitVec 32 := Scf.iv c0_i32_7 c1_i32_9 k0_t3
  let v13 : BitVec 32 := Scalar.muli c4_i32_12 arg12
  let v131 : BitVec 32 := Scalar.addi v13 c1_i32_34
  let v132 : Index := Scalar.indexCast v131
  let c48_35 : Index := 48#32
  ![v132.toNat, 48]
def k0_off17 (k0_t3 : Fin k0_t3_loop.trips) : Fin 2 → Nat :=
  let c0_i32_7 : BitVec 32 := 0#32
  let c1_i32_9 : BitVec 32 := 1#32
  let arg12 : BitVec 32 := Scf.iv c0_i32_7 c1_i32_9 k0_t3
  let v153 : Index := Scalar.indexCast arg12
  let c48_40 : Index := 48#32
  ![v153.toNat, 48]
def k0_off18 (k0_t3 : Fin k0_t3_loop.trips) : Fin 2 → Nat :=
  let c4_i32_12 : BitVec 32 := 4#32
  let c0_i32_7 : BitVec 32 := 0#32
  let c1_i32_9 : BitVec 32 := 1#32
  let arg12 : BitVec 32 := Scf.iv c0_i32_7 c1_i32_9 k0_t3
  let v13 : BitVec 32 := Scalar.muli c4_i32_12 arg12
  let v157 : Index := Scalar.indexCast v13
  let c64 : Index := 64#32
  ![v157.toNat, 64]
def k0_off19 (k0_t3 : Fin k0_t3_loop.trips) (c1_i32_41 : BitVec 32) : Fin 2 → Nat :=
  let c4_i32_12 : BitVec 32 := 4#32
  let c0_i32_7 : BitVec 32 := 0#32
  let c1_i32_9 : BitVec 32 := 1#32
  let arg12 : BitVec 32 := Scf.iv c0_i32_7 c1_i32_9 k0_t3
  let v13 : BitVec 32 := Scalar.muli c4_i32_12 arg12
  let v162 : BitVec 32 := Scalar.addi v13 c1_i32_41
  let v163 : Index := Scalar.indexCast v162
  let c64_42 : Index := 64#32
  ![v163.toNat, 64]
def k0_off20 (k0_t3 : Fin k0_t3_loop.trips) : Fin 2 → Nat :=
  let c0_i32_7 : BitVec 32 := 0#32
  let c1_i32_9 : BitVec 32 := 1#32
  let arg12 : BitVec 32 := Scf.iv c0_i32_7 c1_i32_9 k0_t3
  let v184 : Index := Scalar.indexCast arg12
  let c64_47 : Index := 64#32
  ![v184.toNat, 64]
def k0_off21 (k0_t3 : Fin k0_t3_loop.trips) : Fin 2 → Nat :=
  let c4_i32_12 : BitVec 32 := 4#32
  let c0_i32_7 : BitVec 32 := 0#32
  let c1_i32_9 : BitVec 32 := 1#32
  let arg12 : BitVec 32 := Scf.iv c0_i32_7 c1_i32_9 k0_t3
  let v13 : BitVec 32 := Scalar.muli c4_i32_12 arg12
  let v188 : Index := Scalar.indexCast v13
  let c80 : Index := 80#32
  ![v188.toNat, 80]
def k0_off22 (k0_t3 : Fin k0_t3_loop.trips) (c1_i32_48 : BitVec 32) : Fin 2 → Nat :=
  let c4_i32_12 : BitVec 32 := 4#32
  let c0_i32_7 : BitVec 32 := 0#32
  let c1_i32_9 : BitVec 32 := 1#32
  let arg12 : BitVec 32 := Scf.iv c0_i32_7 c1_i32_9 k0_t3
  let v13 : BitVec 32 := Scalar.muli c4_i32_12 arg12
  let v193 : BitVec 32 := Scalar.addi v13 c1_i32_48
  let v194 : Index := Scalar.indexCast v193
  let c80_49 : Index := 80#32
  ![v194.toNat, 80]
def k0_off23 (k0_t3 : Fin k0_t3_loop.trips) : Fin 2 → Nat :=
  let c0_i32_7 : BitVec 32 := 0#32
  let c1_i32_9 : BitVec 32 := 1#32
  let arg12 : BitVec 32 := Scf.iv c0_i32_7 c1_i32_9 k0_t3
  let v215 : Index := Scalar.indexCast arg12
  let c80_54 : Index := 80#32
  ![v215.toNat, 80]
def k0_off24 (k0_t3 : Fin k0_t3_loop.trips) : Fin 2 → Nat :=
  let c4_i32_12 : BitVec 32 := 4#32
  let c0_i32_7 : BitVec 32 := 0#32
  let c1_i32_9 : BitVec 32 := 1#32
  let arg12 : BitVec 32 := Scf.iv c0_i32_7 c1_i32_9 k0_t3
  let v13 : BitVec 32 := Scalar.muli c4_i32_12 arg12
  let v219 : Index := Scalar.indexCast v13
  let c96 : Index := 96#32
  ![v219.toNat, 96]
def k0_off25 (k0_t3 : Fin k0_t3_loop.trips) (c1_i32_55 : BitVec 32) : Fin 2 → Nat :=
  let c4_i32_12 : BitVec 32 := 4#32
  let c0_i32_7 : BitVec 32 := 0#32
  let c1_i32_9 : BitVec 32 := 1#32
  let arg12 : BitVec 32 := Scf.iv c0_i32_7 c1_i32_9 k0_t3
  let v13 : BitVec 32 := Scalar.muli c4_i32_12 arg12
  let v224 : BitVec 32 := Scalar.addi v13 c1_i32_55
  let v225 : Index := Scalar.indexCast v224
  let c96_56 : Index := 96#32
  ![v225.toNat, 96]
def k0_off26 (k0_t3 : Fin k0_t3_loop.trips) : Fin 2 → Nat :=
  let c0_i32_7 : BitVec 32 := 0#32
  let c1_i32_9 : BitVec 32 := 1#32
  let arg12 : BitVec 32 := Scf.iv c0_i32_7 c1_i32_9 k0_t3
  let v246 : Index := Scalar.indexCast arg12
  let c96_61 : Index := 96#32
  ![v246.toNat, 96]
def k0_off27 (k0_t3 : Fin k0_t3_loop.trips) : Fin 2 → Nat :=
  let c4_i32_12 : BitVec 32 := 4#32
  let c0_i32_7 : BitVec 32 := 0#32
  let c1_i32_9 : BitVec 32 := 1#32
  let arg12 : BitVec 32 := Scf.iv c0_i32_7 c1_i32_9 k0_t3
  let v13 : BitVec 32 := Scalar.muli c4_i32_12 arg12
  let v250 : Index := Scalar.indexCast v13
  let c112 : Index := 112#32
  ![v250.toNat, 112]
def k0_off28 (k0_t3 : Fin k0_t3_loop.trips) (c1_i32_62 : BitVec 32) : Fin 2 → Nat :=
  let c4_i32_12 : BitVec 32 := 4#32
  let c0_i32_7 : BitVec 32 := 0#32
  let c1_i32_9 : BitVec 32 := 1#32
  let arg12 : BitVec 32 := Scf.iv c0_i32_7 c1_i32_9 k0_t3
  let v13 : BitVec 32 := Scalar.muli c4_i32_12 arg12
  let v255 : BitVec 32 := Scalar.addi v13 c1_i32_62
  let v256 : Index := Scalar.indexCast v255
  let c112_63 : Index := 112#32
  ![v256.toNat, 112]
def k0_off29 (k0_t3 : Fin k0_t3_loop.trips) : Fin 2 → Nat :=
  let c0_i32_7 : BitVec 32 := 0#32
  let c1_i32_9 : BitVec 32 := 1#32
  let arg12 : BitVec 32 := Scf.iv c0_i32_7 c1_i32_9 k0_t3
  let v277 : Index := Scalar.indexCast arg12
  let c112_68 : Index := 112#32
  ![v277.toNat, 112]
def k0_off30 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3072_i32 : BitVec 32 := 3072#32
  let v2 : BitVec 32 := Scalar.muli v1 c3072_i32
  let c0_i32_0 : BitVec 32 := 0#32
  let c1_i32 : BitVec 32 := 1#32
  let arg10 : BitVec 32 := Scf.iv c0_i32_0 c1_i32 k0_t1
  let c128_i32 : BitVec 32 := 128#32
  let v6 : BitVec 32 := Scalar.muli arg10 c128_i32
  let v7 : BitVec 32 := Scalar.addi v2 v6
  let c0_i32_12_r2 : BitVec 32 := 0#32
  ![v7.toNat, 0]
def k0_off31 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3072_i32 : BitVec 32 := 3072#32
  let v2 : BitVec 32 := Scalar.muli v1 c3072_i32
  let c0_i32_0 : BitVec 32 := 0#32
  let c1_i32 : BitVec 32 := 1#32
  let arg10 : BitVec 32 := Scf.iv c0_i32_0 c1_i32 k0_t1
  let c128_i32 : BitVec 32 := 128#32
  let v6 : BitVec 32 := Scalar.muli arg10 c128_i32
  let v7 : BitVec 32 := Scalar.addi v2 v6
  ![v7.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S2x196608x128 : Shape := ⟨3, ![2, 196608, 128]⟩
abbrev S2x196608x1 : Shape := ⟨3, ![2, 196608, 1]⟩
abbrev S49152x4 : Shape := ⟨2, ![49152, 4]⟩
abbrev S_ : Shape := ⟨0, ![]⟩
abbrev S49152x4x1 : Shape := ⟨3, ![49152, 4, 1]⟩
abbrev S1 : Shape := ⟨1, ![1]⟩
abbrev S1x1x1 : Shape := ⟨3, ![1, 1, 1]⟩
abbrev S2x49152x4x128 : Shape := ⟨4, ![2, 49152, 4, 128]⟩
abbrev S2x49152x4x1 : Shape := ⟨4, ![2, 49152, 4, 1]⟩
abbrev S2x49152x1 : Shape := ⟨3, ![2, 49152, 1]⟩
abbrev S2x49152x1x1 : Shape := ⟨4, ![2, 49152, 1, 1]⟩
abbrev S2x49152x128 : Shape := ⟨3, ![2, 49152, 128]⟩

abbrev nBuf : Space → Nat
  | .hbm => 66
  | .vmem => 0
  | .smem => 0
  | _ => 0

abbrev bufTy : (tb : Table) → Fin (tcTables nBuf tb) → BufTy
  | .hbm, ⟨0, _⟩ => ⟨S2x196608x128, .f32⟩
  | .hbm, ⟨1, _⟩ => ⟨S2x196608x1, .f32⟩
  | .hbm, ⟨2, _⟩ => ⟨S49152x4, .i32⟩
  | .hbm, ⟨3, _⟩ => ⟨S_, .i32⟩
  | .hbm, ⟨4, _⟩ => ⟨S49152x4, .i32⟩
  | .hbm, ⟨5, _⟩ => ⟨S49152x4, .i1⟩
  | .hbm, ⟨6, _⟩ => ⟨S_, .i32⟩
  | .hbm, ⟨7, _⟩ => ⟨S49152x4, .i32⟩
  | .hbm, ⟨8, _⟩ => ⟨S49152x4, .i32⟩
  | .hbm, ⟨9, _⟩ => ⟨S49152x4, .i32⟩
  | .hbm, ⟨10, _⟩ => ⟨S49152x4x1, .i32⟩
  | .hbm, ⟨11, _⟩ => ⟨S1, .i32⟩
  | .hbm, ⟨12, _⟩ => ⟨S_, .i32⟩
  | .hbm, ⟨13, _⟩ => ⟨S49152x4x1, .i32⟩
  | .hbm, ⟨14, _⟩ => ⟨S49152x4x1, .i1⟩
  | .hbm, ⟨15, _⟩ => ⟨S1x1x1, .i32⟩
  | .hbm, ⟨16, _⟩ => ⟨S49152x4x1, .i32⟩
  | .hbm, ⟨17, _⟩ => ⟨S49152x4x1, .i1⟩
  | .hbm, ⟨18, _⟩ => ⟨S49152x4x1, .i1⟩
  | .hbm, ⟨19, _⟩ => ⟨S_, .i1⟩
  | .hbm, ⟨20, _⟩ => ⟨S49152x4, .i1⟩
  | .hbm, ⟨21, _⟩ => ⟨S2x49152x4x128, .f32⟩
  | .hbm, ⟨22, _⟩ => ⟨S2x49152x4x128, .i1⟩
  | .hbm, ⟨23, _⟩ => ⟨S_, .f32⟩
  | .hbm, ⟨24, _⟩ => ⟨S2x49152x4x128, .f32⟩
  | .hbm, ⟨25, _⟩ => ⟨S2x49152x4x128, .f32⟩
  | .hbm, ⟨26, _⟩ => ⟨S_, .i32⟩
  | .hbm, ⟨27, _⟩ => ⟨S49152x4, .i32⟩
  | .hbm, ⟨28, _⟩ => ⟨S49152x4, .i1⟩
  | .hbm, ⟨29, _⟩ => ⟨S_, .i32⟩
  | .hbm, ⟨30, _⟩ => ⟨S49152x4, .i32⟩
  | .hbm, ⟨31, _⟩ => ⟨S49152x4, .i32⟩
  | .hbm, ⟨32, _⟩ => ⟨S49152x4, .i32⟩
  | .hbm, ⟨33, _⟩ => ⟨S49152x4x1, .i32⟩
  | .hbm, ⟨34, _⟩ => ⟨S1, .i32⟩
  | .hbm, ⟨35, _⟩ => ⟨S_, .i32⟩
  | .hbm, ⟨36, _⟩ => ⟨S49152x4x1, .i32⟩
  | .hbm, ⟨37, _⟩ => ⟨S49152x4x1, .i1⟩
  | .hbm, ⟨38, _⟩ => ⟨S1x1x1, .i32⟩
  | .hbm, ⟨39, _⟩ => ⟨S49152x4x1, .i32⟩
  | .hbm, ⟨40, _⟩ => ⟨S49152x4x1, .i1⟩
  | .hbm, ⟨41, _⟩ => ⟨S49152x4x1, .i1⟩
  | .hbm, ⟨42, _⟩ => ⟨S_, .i1⟩
  | .hbm, ⟨43, _⟩ => ⟨S49152x4, .i1⟩
  | .hbm, ⟨44, _⟩ => ⟨S2x49152x4x1, .f32⟩
  | .hbm, ⟨45, _⟩ => ⟨S2x49152x4x1, .i1⟩
  | .hbm, ⟨46, _⟩ => ⟨S_, .f32⟩
  | .hbm, ⟨47, _⟩ => ⟨S2x49152x4x1, .f32⟩
  | .hbm, ⟨48, _⟩ => ⟨S2x49152x4x1, .f32⟩
  | .hbm, ⟨49, _⟩ => ⟨S_, .f32⟩
  | .hbm, ⟨50, _⟩ => ⟨S2x49152x1, .f32⟩
  | .hbm, ⟨51, _⟩ => ⟨S2x49152x1x1, .f32⟩
  | .hbm, ⟨52, _⟩ => ⟨S_, .f32⟩
  | .hbm, ⟨53, _⟩ => ⟨S2x49152x1x1, .f32⟩
  | .hbm, ⟨54, _⟩ => ⟨S2x49152x1x1, .f32⟩
  | .hbm, ⟨55, _⟩ => ⟨S_, .f32⟩
  | .hbm, ⟨56, _⟩ => ⟨S2x49152x1x1, .f32⟩
  | .hbm, ⟨57, _⟩ => ⟨S2x49152x1x1, .f32⟩
  | .hbm, ⟨58, _⟩ => ⟨S2x49152x4x128, .f32⟩
  | .hbm, ⟨59, _⟩ => ⟨S2x49152x4x128, .f32⟩
  | .hbm, ⟨60, _⟩ => ⟨S_, .f32⟩
  | .hbm, ⟨61, _⟩ => ⟨S2x49152x128, .f32⟩
  | .hbm, ⟨62, _⟩ => ⟨S2x49152x1, .f32⟩
  | .hbm, ⟨63, _⟩ => ⟨S2x49152x128, .f32⟩
  | .hbm, ⟨64, _⟩ => ⟨S2x49152x128, .f32⟩
  | .hbm, ⟨65, _⟩ => ⟨S2x49152x1, .f32⟩
  | _, _ => ⟨S2x196608x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_cst : Ref sig .tc := ⟨.hbm, 23, rfl⟩
abbrev main_call0_v15 : Ref sig .tc := ⟨.hbm, 24, rfl⟩
abbrev main_v0 : Ref sig .tc := ⟨.hbm, 25, rfl⟩
abbrev main_call1_c : Ref sig .tc := ⟨.hbm, 26, rfl⟩
abbrev main_call1_v0 : Ref sig .tc := ⟨.hbm, 27, rfl⟩
abbrev main_call1_v1 : Ref sig .tc := ⟨.hbm, 28, rfl⟩
abbrev main_call1_c_0 : Ref sig .tc := ⟨.hbm, 29, rfl⟩
abbrev main_call1_v2 : Ref sig .tc := ⟨.hbm, 30, rfl⟩
abbrev main_call1_v3 : Ref sig .tc := ⟨.hbm, 31, rfl⟩
abbrev main_call1_v4 : Ref sig .tc := ⟨.hbm, 32, rfl⟩
abbrev main_call1_v5 : Ref sig .tc := ⟨.hbm, 33, rfl⟩
abbrev main_call1_c_1 : Ref sig .tc := ⟨.hbm, 34, rfl⟩
abbrev main_call1_c_2 : Ref sig .tc := ⟨.hbm, 35, rfl⟩
abbrev main_call1_v6 : Ref sig .tc := ⟨.hbm, 36, rfl⟩
abbrev main_call1_v7 : Ref sig .tc := ⟨.hbm, 37, rfl⟩
abbrev main_call1_v8 : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_3 : Ref sig .tc := ⟨.hbm, 42, rfl⟩
abbrev main_call1_v12 : Ref sig .tc := ⟨.hbm, 43, rfl⟩
abbrev main_call1_v13 : Ref sig .tc := ⟨.hbm, 44, rfl⟩
abbrev main_call1_v14 : Ref sig .tc := ⟨.hbm, 45, rfl⟩
abbrev main_call1_cst : Ref sig .tc := ⟨.hbm, 46, rfl⟩
abbrev main_call1_v15 : Ref sig .tc := ⟨.hbm, 47, rfl⟩
abbrev main_v1 : Ref sig .tc := ⟨.hbm, 48, rfl⟩
abbrev main_cst : Ref sig .tc := ⟨.hbm, 49, rfl⟩
abbrev main_v2 : Ref sig .tc := ⟨.hbm, 50, rfl⟩
abbrev main_v3 : Ref sig .tc := ⟨.hbm, 51, rfl⟩
abbrev main_cst_0 : Ref sig .tc := ⟨.hbm, 52, rfl⟩
abbrev main_v4 : Ref sig .tc := ⟨.hbm, 53, rfl⟩
abbrev main_v5 : Ref sig .tc := ⟨.hbm, 54, rfl⟩
abbrev main_cst_1 : Ref sig .tc := ⟨.hbm, 55, rfl⟩
abbrev main_v6 : Ref sig .tc := ⟨.hbm, 56, rfl⟩
abbrev main_v7 : Ref sig .tc := ⟨.hbm, 57, rfl⟩
abbrev main_v8 : Ref sig .tc := ⟨.hbm, 58, rfl⟩
abbrev main_v9 : Ref sig .tc := ⟨.hbm, 59, rfl⟩
abbrev main_cst_2 : Ref sig .tc := ⟨.hbm, 60, rfl⟩
abbrev main_v10 : Ref sig .tc := ⟨.hbm, 61, rfl⟩
abbrev main_v11 : Ref sig .tc := ⟨.hbm, 62, rfl⟩
abbrev main_v12 : Ref sig .tc := ⟨.hbm, 63, rfl⟩
abbrev main_v13 : Ref sig .tc := ⟨.hbm, 64, rfl⟩
abbrev main_v14 : Ref sig .tc := ⟨.hbm, 65, rfl⟩

abbrev nD : Nat := 1
abbrev τ : Topo := Topo.v7x

variable {F : FTy → Type} [FloatOps F]
-- ==== Proof.Pool.lean ====
/- The mathematics of mask-weighted pooling over groups of four rows, over any float instance: the
   mask's mean over a group, and the group's weighted mean of one column. The weights are read by row
   number and the rows by row number and column, so that a chunk's rows and the whole arrays' rows
   are the same functions moved along. -/
module

public import Idealize.ShloMosaic.PureOps

@[expose] public section

noncomputable section

namespace Cert.Proof.Pool

open Idealize.ShloMosaic

variable {F : FTy → Type} [FloatOps F]

/-- The sum of four values, added in pairs by the scalar unit. -/
def pairSum (a b c d : F .f32) : F .f32 := Scalar.addf (Scalar.addf a b) (Scalar.addf c d)

/-- The sum of four values, added in pairs by the vector unit. -/
def laneSum (a b c d : F .f32) : F .f32 := FloatOps.addf (FloatOps.addf a b) (FloatOps.addf c d)

/-- The sum of the weights of group `g`: rows `4g` to `4g+3`. -/
def weightSum (w : ℕ → F .f32) (g : ℕ) : F .f32 :=
  pairSum (w (4 * g)) (w (4 * g + 1)) (w (4 * g + 2)) (w (4 * g + 3))

/-- The mean weight of group `g`: the sum times a quarter. -/
def meanAt (w : ℕ → F .f32) (g : ℕ) : F .f32 :=
  Scalar.mulf (weightSum w g) (Scalar.ofBits .f32 0x3E800000#32)

/-- One over the group's weight, the weight held from below at a millionth. -/
def scaleAt (w : ℕ → F .f32) (g : ℕ) : F .f32 :=
  FloatOps.divf (Scalar.ofBits .f32 0x3F800000#32)
    (FloatOps.maximumf (weightSum w g) (Scalar.ofBits .f32 0x358637BD#32))

/-- Group `g`'s pooled value in column `c`: its four rows weighted and added, times the scale. -/
def pooledAt (x : ℕ → ℕ → F .f32) (w : ℕ → F .f32) (g c : ℕ) : F .f32 :=
  FloatOps.mulf
    (laneSum (FloatOps.mulf (x (4 * g) c) (w (4 * g)))
      (FloatOps.mulf (x (4 * g + 1) c) (w (4 * g + 1)))
      (FloatOps.mulf (x (4 * g + 2) c) (w (4 * g + 2)))
      (FloatOps.mulf (x (4 * g + 3) c) (w (4 * g + 3))))
    (scaleAt w g)

/-- Rows numbered from `4 * b` on have group `g`'s mean where all the rows have group `b + g`'s. -/
theorem meanAt_shift (w : ℕ → F .f32) (b g : ℕ) :
    meanAt (fun n => w (4 * b + n)) g = meanAt w (b + g) := by
  simp only [meanAt, weightSum, Nat.mul_add, Nat.add_assoc]

/-- The same of the pooled values. -/
theorem pooledAt_shift (x : ℕ → ℕ → F .f32) (w : ℕ → F .f32) (b g c : ℕ) :
    pooledAt (fun n => x (4 * b + n)) (fun n => w (4 * b + n)) g c = pooledAt x w (b + g) c := by
  simp only [pooledAt, scaleAt, weightSum, Nat.mul_add, Nat.add_assoc]

/-- Group `g`'s mean reads the weights below `4g + 4` only. -/
theorem meanAt_congr {w w' : ℕ → F .f32} {g : ℕ} (h : ∀ r < 4, w (4 * g + r) = w' (4 * g + r)) :
    meanAt w g = meanAt w' g := by
  have h0 := h 0 (by omega)
  rw [Nat.add_zero] at h0
  simp only [meanAt, weightSum, h0, h 1 (by omega), h 2 (by omega), h 3 (by omega)]

end Cert.Proof.Pool

end
-- ==== Proof.Setup.lean ====
/- The launch of the pooling kernel on the SparseCores: the generated program's configuration, the
   resources the proof adds to it, and the memrefs a tile holds, each spelt as the program spells it. -/
module

public import proofs.«01_k».proof.Defs
public import Idealize.ShloMosaic.Lib.SparseCore.Quiescent
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton
public import proofs.«01_k».proof.Proof.Pool

@[expose] public section

noncomputable section

namespace Cert.Proof.Tile

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-- The program's loop and call labels. -/
abbrev ΛP : Labels := Pipeline.Sig Λ₀ (Fin 0) fun p => (pcfgs (F := F) p).Adm
/-- The program's SparseCore configuration. -/
abbrev K : SparseCore.Cfg τ sig (ΛP (F := F)) 1 := sc (F := F)
/-- The program's definitions. -/
abbrev D [FloatOps F] : Defs nD τ sig (Elt F) (ΛP (F := F)) := Pipeline.defs pcfgs defs₀
/-- No variants: every loop is counted. -/
abbrev 𝒱₀ : Variants := Variants.none
/-- The same, lifted to the program's labels. -/
abbrev 𝒱 : Variants := 𝒱₀.lift
/-- The variant at the start. -/
abbrev v₀ : 𝒱.V := Sum.inl none

/-- The rounds' tokens, beside the counters of the transfers. -/
abbrev UH : Type := URounds (GSem nD τ sig) ℕ
/-- The ghost state: the handshakes' rounds and the counters. -/
abbrev UU : Type := UH × Counters
local notation "𝕄" => MT nD τ sig (HIx 1) (Elt F) ℕ UU ℕ
/-- The handshakes' part of the ghost state. -/
abbrev EH : Emb UH (MT nD τ sig (HIx 1) (Elt F) ℕ UU ℕ) := embL

/-- The flat rows. -/
abbrev mX : Memref sig .scVector .hbm S393216x128 .f32 := Memref.whole main_v0_scv
/-- The flat weights. -/
abbrev mW : Memref sig .scVector .hbm S393216 .f32 := Memref.whole main_v1_scv
/-- The flat pooled values. -/
abbrev mP : Memref sig .scVector .hbm S98304x128 .f32 := Memref.whole main_v2_0_scv
/-- The flat means. -/
abbrev mA : Memref sig .scVector .hbm S98304 .f32 := Memref.whole main_v2_1_scv
/-- The scratch buffer of rows. -/
abbrev bX : Memref sig .scVector .vmem S512x128 .f32 := Memref.whole cc0_scratch0
/-- The scratch buffer of weights. -/
abbrev bW : Memref sig .scVector .vmem S528 .f32 := Memref.whole cc0_scratch1
/-- The scratch buffer of pooled values. -/
abbrev bP : Memref sig .scVector .vmem S128x128 .f32 := Memref.whole cc0_scratch2
/-- The scratch buffer of means. -/
abbrev bA : Memref sig .scVector .vmem S128 .f32 := Memref.whole cc0_scratch3

/-- The tile at grid coordinates `L`, as a thread of device `d`. -/
abbrev cV (L : grid0.Coords) : Fin τ.nSC := (L 0).castLE hcore0
/-- The tile's subcore. -/
abbrev jV (L : grid0.Coords) : Fin τ.nSub := (L 1).castLE hsub0
/-- The tile's thread. -/
abbrev thr (d : Dev nD) (L : grid0.Coords) : Thread nD τ := V d (cV L) (jV L)

/-- The kernel's function at those memrefs. -/
abbrev tileProg [FloatOps F] (L : grid0.Coords) :=
  cc0_k (F := F) L mX (Memref.isWhole_whole _) mW (Memref.isWhole_whole _) mP (Memref.isWhole_whole _)
    mA (Memref.isWhole_whole _) bX (Memref.isWhole_whole _) bW (Memref.isWhole_whole _) bP
    (Memref.isWhole_whole _) bA (Memref.isWhole_whole _) cc0_scoped0 cc0_scoped1 cc0_scoped2 cc0_scoped3

/-- One chunk's body. -/
abbrev chunkBody [FloatOps F] (L : grid0.Coords) :=
  k0_t1_body (F := F) L mX (Memref.isWhole_whole _) mW (Memref.isWhole_whole _) mP (Memref.isWhole_whole _)
    mA (Memref.isWhole_whole _) bX (Memref.isWhole_whole _) bW (Memref.isWhole_whole _) bP
    (Memref.isWhole_whole _) bA (Memref.isWhole_whole _) cc0_scoped0 cc0_scoped1 cc0_scoped2 cc0_scoped3

/-- One trip of the means' loop. -/
abbrev meanBody [FloatOps F] (L : grid0.Coords) :=
  k0_t2_body (F := F) L mX (Memref.isWhole_whole _) mW (Memref.isWhole_whole _) mP (Memref.isWhole_whole _)
    mA (Memref.isWhole_whole _) bX (Memref.isWhole_whole _) bW (Memref.isWhole_whole _) bP
    (Memref.isWhole_whole _) bA (Memref.isWhole_whole _) cc0_scoped0 cc0_scoped1 cc0_scoped2 cc0_scoped3

/-- One trip of the pooling loop. -/
abbrev poolBody [FloatOps F] (L : grid0.Coords) :=
  k0_t3_body (F := F) L mX (Memref.isWhole_whole _) mW (Memref.isWhole_whole _) mP (Memref.isWhole_whole _)
    mA (Memref.isWhole_whole _) bX (Memref.isWhole_whole _) bW (Memref.isWhole_whole _) bP
    (Memref.isWhole_whole _) bA (Memref.isWhole_whole _) cc0_scoped0 cc0_scoped1 cc0_scoped2 cc0_scoped3

end Cert.Proof.Tile

end
-- ==== Proof.Block.lean ====
/- What one trip of each inner loop stores: sixteen columns of a group's pooled row, and sixteen
   groups' mean weights, from the vectors the trip loads. -/
module

public import Idealize.ShloMosaic.Lib.PointwiseCore
public import proofs.«01_k».proof.Proof.Gen.KernelIdeal
public import proofs.«01_k».proof.Proof.Gen.KernelIdeal.Skeleton
public import proofs.«01_k».proof.Proof.Pool

@[expose] public section

noncomputable section

namespace Cert.Proof.Block

open Cert.KernelIdeal Cert.KernelIdeal.Gen
open Idealize.ShloMosaic
open Cert.Proof.Pool

variable {F : FTy → Type} [FloatOps F]

/-- Sixteen pooled columns of a group, from the weights' vector (its first four lanes are the
    group's) and the group's four rows at those columns. -/
def stripPay (w : Vec F S16 .f32) (x₀ x₁ x₂ x₃ : Vec F S1x16 .f32) : FVec F S1x16 .f32 :=
  k0_pay23 (k0_pay22 w x₀ x₁ x₂ x₃)

/-- Lane by lane: the four products added in pairs, times one over the weights' sum held from below
    at a millionth. -/
theorem stripPay_apply (w : Vec F S16 .f32) (x₀ x₁ x₂ x₃ : Vec F S1x16 .f32) (j : S1x16.Idx) :
    stripPay w x₀ x₁ x₂ x₃ j = FloatOps.mulf
      (laneSum (FloatOps.mulf (x₀ j) (w (ix1 0))) (FloatOps.mulf (x₁ j) (w (ix1 1)))
        (FloatOps.mulf (x₂ j) (w (ix1 2))) (FloatOps.mulf (x₃ j) (w (ix1 3))))
      (FloatOps.divf (Scalar.ofBits .f32 0x3F800000#32)
        (FloatOps.maximumf (pairSum (w (ix1 0)) (w (ix1 1)) (w (ix1 2)) (w (ix1 3)))
          (Scalar.ofBits .f32 0x358637BD#32))) := by
  pointwise [stripPay, k0_pay23, k0_pay22, k0_pay21, k0_pay20, k0_pay19, k0_pay18, k0_pay17,
    k0_pay16, pairSum, laneSum]

/-- Sixteen groups' mean weights, from the four vectors that hold the groups' weights. -/
def meanPay (v₀ v₁ v₂ v₃ : Vec F S16 .f32) : FVec F S16 .f32 :=
  let n : IVec S16 32 := iota .scVector S16 32 [0] iota_S16_d0_w32_scVector
  k0_pay33 n (k0_pay13 v₃)
    (k0_pay14 n
      (k0_pay12 n (k0_pay8 n (k0_pay4 v₁) (k0_pay5 n (k0_pay1 v₀) (k0_pay2 n v₀) (k0_pay3 v₀) 2#32 v₁)
        (k0_pay6 v₁) k0_pay7) (k0_pay9 v₂) (k0_pay10 v₂) (k0_pay11 n)) v₃)
    (k0_pay15 v₃)

/-- Lane `j` is the mean of group `16k + j`, when the four vectors hold the weights of the
    sixty-four rows from `64k` on. -/
theorem meanPay_apply (w : ℕ → F .f32) (k : ℕ) (v₀ v₁ v₂ v₃ : Vec F S16 .f32)
    (h₀ : ∀ l : Fin 16, v₀ (ix1 l) = w (64 * k + l.val))
    (h₁ : ∀ l : Fin 16, v₁ (ix1 l) = w (64 * k + (16 + l.val)))
    (h₂ : ∀ l : Fin 16, v₂ (ix1 l) = w (64 * k + (32 + l.val)))
    (h₃ : ∀ l : Fin 16, v₃ (ix1 l) = w (64 * k + (48 + l.val))) (j : Fin 16) :
    meanPay v₀ v₁ v₂ v₃ (ix1 j) = meanAt w (16 * k + j.val) := by
  pointwise [meanPay, k0_pay33, k0_pay15, k0_pay14, k0_pay13, k0_pay12, k0_pay11, k0_pay10, k0_pay9,
    k0_pay8, k0_pay7, k0_pay6, k0_pay5, k0_pay4, k0_pay3, k0_pay2, k0_pay1, h₀, h₁, h₂, h₃]
  have e : 4 * (16 * k + j.val) = 64 * k + 4 * j.val := by omega
  rw [meanAt, weightSum, e]
  simp only [Nat.add_assoc]
  fin_cases j <;> rfl

end Cert.Proof.Block

end
-- ==== Proof.Held.lean ====
/- A tile's read scratches: what a chunk's copies leave in them, and what a load of sixteen places reads. -/
module

public import proofs.«01_k».proof.Proof.Setup
public import proofs.«01_k».proof.Proof.Block

@[expose] public section

noncomputable section

namespace Cert.Proof.Tile

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

open Cert.Proof.Pool Cert.Proof.Block

/-- The row scratch holds the rows `x`. -/
def RowsHeld (d : Dev nD) (L : grid0.Coords) (x : ℕ → ℕ → F .f32)
    (f : Buf (Elt F) (bX.view.loc (thr d L))) : Prop :=
  ∀ y : S512x128.Idx, bX.view.read (Elt F) f y = x (y 0).val (y 1).val

/-- The first 512 places of the weight scratch hold the weights `w`. -/
def WeightsHeld (d : Dev nD) (L : grid0.Coords) (w : ℕ → F .f32)
    (f : Buf (Elt F) (bW.view.loc (thr d L))) : Prop :=
  ∀ y : S528.Idx, (y 0).val < 512 → bW.view.read (Elt F) f y = w (y 0).val

/-- Sixteen columns from `c` on of row `r`, loaded from the row scratch. -/
theorem rows_load {d : Dev nD} {L : grid0.Coords} {x : ℕ → ℕ → F .f32}
    {fX : Buf (Elt F) (bX.view.loc (thr d L))} (hX : RowsHeld d L x fX) (r c : ℕ)
    (off : Fin S512x128.rank → ℕ) (inb : ∀ a, off a + S1x16.size a ≤ S512x128.size a)
    (ho : off = ![r, c]) (j : S1x16.Idx) :
    bX.view.readAt (Elt F) (Rect.unit (s := S512x128) off S1x16.size inb).toLoadRect fX j
      = x r (c + (j 1).val) := by
  subst ho
  rw [View.readAt_apply, hX]
  have h0 : (j 0).val = 0 := by have := (j 0).isLt; change (j 0).val < 1 at this; omega
  congr 1 <;> simp [h0]

/-- Sixteen weights from row `r` on, loaded from the weight scratch: lane `l` is row `r + l`'s where
    that is below 512. -/
theorem weights_load {d : Dev nD} {L : grid0.Coords} {w : ℕ → F .f32}
    {fW : Buf (Elt F) (bW.view.loc (thr d L))} (hW : WeightsHeld d L w fW) (r : ℕ)
    (off : Fin S528.rank → ℕ) (inb : ∀ a, off a + S16.size a ≤ S528.size a)
    (ho : off = ![r]) (l : Fin 16) (h : r + l.val < 512) :
    bW.view.readAt (Elt F) (Rect.unit (s := S528) off S16.size inb).toLoadRect fW (ix1 l)
      = w (r + l.val) := by
  subst ho
  rw [View.readAt_apply, hW _ (by simpa using h)]
  congr 1
  simp

end Cert.Proof.Tile

end
-- ==== Proof.PoolTrip.lean ====
/- One trip of the pooling loop: a group's row of the pooled scratch, sixteen columns at a time. -/
module

public import proofs.«01_k».proof.Proof.Held

@[expose] public section

noncomputable section

namespace Cert.Proof.Tile

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

open Cert.Proof.Pool Cert.Proof.Block

/-- The first `n` rows of the pooled scratch hold the pooled values of the chunk's first `n` groups. -/
def PooledBelow (d : Dev nD) (L : grid0.Coords) (x : ℕ → ℕ → F .f32) (w : ℕ → F .f32) (n : ℕ)
    (f : Buf (Elt F) (bP.view.loc (thr d L))) : Prop :=
  ∀ y : S128x128.Idx, (y 0).val < n → bP.view.read (Elt F) f y = pooledAt x w (y 0).val (y 1).val

/-- The pooling loop makes 128 trips. -/
theorem trips3 : k0_t3_loop.trips = 128 := by decide

/-- The sixteen columns from `c` on of group `k`'s pooled row, from the loads of trip `k`. -/
theorem strip_value {d : Dev nD} {L : grid0.Coords} {x : ℕ → ℕ → F .f32} {w : ℕ → F .f32}
    {fX : Buf (Elt F) (bX.view.loc (thr d L))} {fW : Buf (Elt F) (bW.view.loc (thr d L))}
    (hX : RowsHeld d L x fX) (hW : WeightsHeld d L w fW) (k : Fin k0_t3_loop.trips) (c : ℕ)
    (o₀ o₁ o₂ o₃ : Fin S512x128.rank → ℕ)
    (i₀ : ∀ a, o₀ a + S1x16.size a ≤ S512x128.size a) (i₁ : ∀ a, o₁ a + S1x16.size a ≤ S512x128.size a)
    (i₂ : ∀ a, o₂ a + S1x16.size a ≤ S512x128.size a) (i₃ : ∀ a, o₃ a + S1x16.size a ≤ S512x128.size a)
    (h₀ : o₀ = ![4 * k.val, c]) (h₁ : o₁ = ![4 * k.val + 1, c]) (h₂ : o₂ = ![4 * k.val + 2, c])
    (h₃ : o₃ = ![4 * k.val + 3, c]) (j : S1x16.Idx) :
    stripPay
        (bW.view.readAt (Elt F) (Rect.unit (s := S528) (k0_off5 k) S16.size (k0_off5_inb k)).toLoadRect fW)
        (bX.view.readAt (Elt F) (Rect.unit (s := S512x128) o₀ S1x16.size i₀).toLoadRect fX)
        (bX.view.readAt (Elt F) (Rect.unit (s := S512x128) o₁ S1x16.size i₁).toLoadRect fX)
        (bX.view.readAt (Elt F) (Rect.unit (s := S512x128) o₂ S1x16.size i₂).toLoadRect fX)
        (bX.view.readAt (Elt F) (Rect.unit (s := S512x128) o₃ S1x16.size i₃).toLoadRect fX) j
      = pooledAt x w k.val (c + (j 1).val) := by
  have hk : k.val < 128 := trips3 ▸ k.isLt
  have hw := fun l : Fin 16 => weights_load hW (4 * k.val) (k0_off5 k) (k0_off5_inb k) (k0_off5_eq k) l
  rw [stripPay_apply, rows_load hX _ _ o₀ i₀ h₀, rows_load hX _ _ o₁ i₁ h₁, rows_load hX _ _ o₂ i₂ h₂,
    rows_load hX _ _ o₃ i₃ h₃, hw 0 (by simp; omega), hw 1 (by simp; omega), hw 2 (by simp; omega),
    hw 3 (by simp; omega)]
  rfl

/-- A sixteen-column strip of row `k` at column `c` holds the places of that row between its columns. -/
theorem strip_mem {k c : ℕ} {off : Fin S128x128.rank → ℕ} {inb : ∀ a, off a + S1x16.size a ≤ S128x128.size a}
    (ho : off = ![k, c]) (y : S128x128.Idx) :
    y ∈ (Rect.unit (s := S128x128) off S1x16.size inb).set
      ↔ (y 0).val = k ∧ c ≤ (y 1).val ∧ (y 1).val < c + 16 := by
  subst ho
  rw [Rect.mem_set_unit, Fin.forall_fin_two]
  simp only [S1x16, Matrix.cons_val_zero, Matrix.cons_val_one]
  omega

/-- A strip's store, as a piece of the pooled scratch: its payload is the pooled values at the places
    it fills. -/
theorem strip_piece {d : Dev nD} {L : grid0.Coords} {x : ℕ → ℕ → F .f32} {w : ℕ → F .f32}
    {fX : Buf (Elt F) (bX.view.loc (thr d L))} {fW : Buf (Elt F) (bW.view.loc (thr d L))}
    (hX : RowsHeld d L x fX) (hW : WeightsHeld d L w fW) (k : Fin k0_t3_loop.trips) (c : ℕ)
    {o : Fin S128x128.rank → ℕ} {i : ∀ a, o a + S1x16.size a ≤ S128x128.size a}
    {o₀ o₁ o₂ o₃ : Fin S512x128.rank → ℕ}
    {i₀ : ∀ a, o₀ a + S1x16.size a ≤ S512x128.size a} {i₁ : ∀ a, o₁ a + S1x16.size a ≤ S512x128.size a}
    {i₂ : ∀ a, o₂ a + S1x16.size a ≤ S512x128.size a} {i₃ : ∀ a, o₃ a + S1x16.size a ≤ S512x128.size a}
    (h : o = ![k.val, c]) (h₀ : o₀ = ![4 * k.val, c]) (h₁ : o₁ = ![4 * k.val + 1, c])
    (h₂ : o₂ = ![4 * k.val + 2, c]) (h₃ : o₃ = ![4 * k.val + 3, c]) (j : S1x16.Idx) :
    stripPay
        (bW.view.readAt (Elt F) (Rect.unit (s := S528) (k0_off5 k) S16.size (k0_off5_inb k)).toLoadRect fW)
        (bX.view.readAt (Elt F) (Rect.unit (s := S512x128) o₀ S1x16.size i₀).toLoadRect fX)
        (bX.view.readAt (Elt F) (Rect.unit (s := S512x128) o₁ S1x16.size i₁).toLoadRect fX)
        (bX.view.readAt (Elt F) (Rect.unit (s := S512x128) o₂ S1x16.size i₂).toLoadRect fX)
        (bX.view.readAt (Elt F) (Rect.unit (s := S512x128) o₃ S1x16.size i₃).toLoadRect fX) j
      = pooledAt x w k.val (((Rect.unit (s := S128x128) o S1x16.size i).emb j) 1).val := by
  rw [strip_value hX hW k c o₀ o₁ o₂ o₃ i₀ i₁ i₂ i₃ h₀ h₁ h₂ h₃ j]
  subst h
  congr 1
  simp

/-- One trip of the pooling loop: group `k`'s row of the pooled scratch is filled, the rows below it
    kept. -/
theorem pool_trip (d : Dev nD) (L : grid0.Coords) (v2 : BitVec 32) (v3 : IVec S16 32)
    (t : Fin k0_t1_loop.trips) (k : Fin k0_t3_loop.trips) (acc : BitVec 32)
    (x : ℕ → ℕ → F .f32) (w : ℕ → F .f32)
    (fX : Buf (Elt F) (bX.view.loc (thr d L))) (fW : Buf (Elt F) (bW.view.loc (thr d L)))
    (fP : Buf (Elt F) (bP.view.loc (thr d L)))
    (hX : RowsHeld d L x fX) (hW : WeightsHeld d L w fW) (hP : PooledBelow d L x w k.val fP) :
    (iprop((bX.view.loc (thr d L) ↦{fullShare} fX) ∗ (bW.view.loc (thr d L) ↦{fullShare} fW)
        ∗ (bP.view.loc (thr d L) ↦{fullShare} fP)) : sProp 𝕄)
      ⊢ wp frame (wpE (defs₀ (F := F)) 𝒱₀ (thr d L) none) Set.univ
          (poolBody (F := F) L v2 v3 0#32 1#32 t k acc) fun _ =>
        iprop((bX.view.loc (thr d L) ↦{fullShare} fX) ∗ (bW.view.loc (thr d L) ↦{fullShare} fW)
        ∗ ∃ f, ⌜PooledBelow d L x w (k.val + 1) f⌝ ∗ (bP.view.loc (thr d L) ↦{fullShare} f)) := by
  unfold poolBody k0_t3_body
  iintro ⟨HX, HW, HP⟩
  sl_exec
  sl_step
  isplitl [HX]; · iexact HX
  isplitl [HW]; · iexact HW
  iexists _
  isplitr [HP]
  rotate_left
  · iexact HP
  ipureintro
  intro y hy
  by_cases hyk : (y 0).val = k.val
  · refine (View.read_writes_apply_of_pieces (G := fun y : S128x128.Idx => pooledAt x w k.val (y 1).val) _ _ _ ?_ y ?_).trans (by rw [hyk])
    · simp only [List.forall_mem_cons]
      refine ⟨strip_piece hX hW k 112 (k0_off29_eq k) (k0_off27_eq k) (k0_off28_eq k 0) (k0_off28_eq k 1) (k0_off28_eq k 2),
        strip_piece hX hW k 96 (k0_off26_eq k) (k0_off24_eq k) (k0_off25_eq k 0) (k0_off25_eq k 1) (k0_off25_eq k 2),
        strip_piece hX hW k 80 (k0_off23_eq k) (k0_off21_eq k) (k0_off22_eq k 0) (k0_off22_eq k 1) (k0_off22_eq k 2),
        strip_piece hX hW k 64 (k0_off20_eq k) (k0_off18_eq k) (k0_off19_eq k 0) (k0_off19_eq k 1) (k0_off19_eq k 2),
        strip_piece hX hW k 48 (k0_off17_eq k) (k0_off15_eq k) (k0_off16_eq k 0) (k0_off16_eq k 1) (k0_off16_eq k 2),
        strip_piece hX hW k 32 (k0_off14_eq k) (k0_off12_eq k) (k0_off13_eq k 0) (k0_off13_eq k 1) (k0_off13_eq k 2),
        strip_piece hX hW k 16 (k0_off11_eq k) (k0_off9_eq k) (k0_off10_eq k 0) (k0_off10_eq k 1) (k0_off10_eq k 2),
        strip_piece hX hW k 0 (k0_off8_eq k) (k0_off6_eq k) (k0_off7_eq k 0) (k0_off7_eq k 1) (k0_off7_eq k 2), ?_⟩
      exact fun _ h => absurd h List.not_mem_nil
    · have hy1 : (y 1).val < 128 := (y 1).isLt
      simp only [List.exists_mem_cons_iff, strip_mem (k0_off29_eq k), strip_mem (k0_off26_eq k),
        strip_mem (k0_off23_eq k), strip_mem (k0_off20_eq k), strip_mem (k0_off17_eq k),
        strip_mem (k0_off14_eq k), strip_mem (k0_off11_eq k), strip_mem (k0_off8_eq k)]
      omega
  · rw [View.read_writes_apply_of_forall_not_mem]
    · exact hP y (by omega)
    · simp only [List.forall_mem_cons, strip_mem (k0_off29_eq k), strip_mem (k0_off26_eq k),
        strip_mem (k0_off23_eq k), strip_mem (k0_off20_eq k), strip_mem (k0_off17_eq k),
        strip_mem (k0_off14_eq k), strip_mem (k0_off11_eq k), strip_mem (k0_off8_eq k)]
      simp only [hyk, false_and, not_false_eq_true, true_and]
      exact fun _ h => absurd h List.not_mem_nil

end Cert.Proof.Tile

end
-- ==== Proof.MeanTrip.lean ====
/- One trip of the mean loop: sixteen groups' mean weights. -/
module

public import proofs.«01_k».proof.Proof.Held

@[expose] public section

noncomputable section

namespace Cert.Proof.Tile

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

open Cert.Proof.Pool Cert.Proof.Block

/-- The first `n` places of the mean scratch hold the mean weights of the chunk's first `n` groups. -/
def MeansBelow (d : Dev nD) (L : grid0.Coords) (w : ℕ → F .f32) (n : ℕ)
    (f : Buf (Elt F) (bA.view.loc (thr d L))) : Prop :=
  ∀ y : S128.Idx, (y 0).val < n → bA.view.read (Elt F) f y = meanAt w (y 0).val

/-- The mean loop makes 8 trips. -/
theorem trips2 : k0_t2_loop.trips = 8 := by decide

/-- One trip of the mean loop: places `16k` to `16k+15` of the mean scratch are filled, those below
    kept. -/
theorem mean_trip (d : Dev nD) (L : grid0.Coords) (v2 : BitVec 32)
    (t : Fin k0_t1_loop.trips) (k : Fin k0_t2_loop.trips) (acc : BitVec 32) (w : ℕ → F .f32)
    (fW : Buf (Elt F) (bW.view.loc (thr d L))) (fA : Buf (Elt F) (bA.view.loc (thr d L)))
    (hW : WeightsHeld d L w fW) (hA : MeansBelow d L w (16 * k.val) fA) :
    (iprop((bW.view.loc (thr d L) ↦{fullShare} fW) ∗ (bA.view.loc (thr d L) ↦{fullShare} fA)) : sProp 𝕄)
      ⊢ wp frame (wpE (defs₀ (F := F)) 𝒱₀ (thr d L) none) Set.univ
          (meanBody (F := F) L v2 (iota .scVector S16 32 [0] iota_S16_d0_w32_scVector) 0#32 1#32 t k acc) fun _ =>
        iprop((bW.view.loc (thr d L) ↦{fullShare} fW)
        ∗ ∃ f, ⌜MeansBelow d L w (16 * (k.val + 1)) f⌝ ∗ (bA.view.loc (thr d L) ↦{fullShare} f)) := by
  unfold meanBody k0_t2_body
  iintro ⟨HW, HA⟩
  sl_exec
  sl_step
  isplitl [HW]; · iexact HW
  iexists _
  isplitr [HA]
  rotate_left
  · iexact HA
  ipureintro
  have hk : k.val < 8 := trips2 ▸ k.isLt
  intro y hy
  by_cases hyk : 16 * k.val ≤ (y 0).val
  · obtain ⟨l, hl⟩ : ∃ l : Fin 16, (y 0).val = 16 * k.val + l.val := ⟨⟨(y 0).val - 16 * k.val, by omega⟩, by simp; omega⟩
    refine (View.read_writes_cons_hit_of_coords _ _ _ _ _ (ix1 l) y ?_).trans ?_
    · intro a
      obtain rfl : a = 0 := Subsingleton.elim _ _
      simp [k0_off4_eq, hl]
    · refine (meanPay_apply w k.val _ _ _ _ ?_ ?_ ?_ ?_ l).trans (by rw [hl])
      · intro l
        exact (weights_load hW (64 * k.val) _ (k0_off3_inb k 0) (k0_off3_eq k 0) l (by omega))
      · intro l
        exact (weights_load hW (64 * k.val + 16) _ (k0_off3_inb k 1) (k0_off3_eq k 1) l (by omega)).trans (by rw [Nat.add_assoc])
      · intro l
        exact (weights_load hW (64 * k.val + 32) _ (k0_off3_inb k 2) (k0_off3_eq k 2) l (by omega)).trans (by rw [Nat.add_assoc])
      · intro l
        exact (weights_load hW (64 * k.val + 48) _ (k0_off3_inb k 3) (k0_off3_eq k 3) l (by omega)).trans (by rw [Nat.add_assoc])
  · refine (View.read_writes_cons_miss_of_axis _ _ _ _ y 0 (16 * k.val) 16 ?_ rfl rfl (by omega)).trans (hA y (by omega))
    simp [k0_off4_eq]

end Cert.Proof.Tile

end
-- ==== Proof.Chunk.lean ====
/- One trip of the tile's outer loop, a chunk of 128 groups: two copies in, the two inner loops, two
   copies out. -/
module

public import proofs.«01_k».proof.Proof.PoolTrip
public import proofs.«01_k».proof.Proof.MeanTrip

@[expose] public section

noncomputable section

namespace Cert.Proof.Tile

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Pool Cert.Proof.Block

variable {F : FTy → Type} [FloatOps F]

local notation "𝕄" => MT nD τ sig (HIx 1) (Elt F) ℕ UU ℕ

/-- Chunk `t` of the tile at `L` begins at this group. -/
def base (L : grid0.Coords) (t : Fin k0_t1_loop.trips) : ℕ :=
  6144 * (L 1).val + 3072 * (L 0).val + 128 * t.val

/-- The chunk's window of the rows, spelt as the program slices it. -/
abbrev wX (L : grid0.Coords) (t : Fin k0_t1_loop.trips) : Memref sig .scVector .hbm S512x128 .f32 :=
  mX.slice (Rect.unit (s := S393216x128) (k0_off1 L t) S512x128.size (k0_off1_inb L t)) (fun _ => rfl)
/-- The chunk's window of the weights. -/
abbrev wW (L : grid0.Coords) (t : Fin k0_t1_loop.trips) : Memref sig .scVector .hbm S512 .f32 :=
  mW.slice (Rect.unit (s := S393216) (k0_off2 L t) S512.size (k0_off2_inb L t)) (fun _ => rfl)
/-- The chunk's window of the pooled values. -/
abbrev wP (L : grid0.Coords) (t : Fin k0_t1_loop.trips) : Memref sig .scVector .hbm S128x128 .f32 :=
  mP.slice (Rect.unit (s := S98304x128) (k0_off30 L t) S128x128.size (k0_off30_inb L t)) (fun _ => rfl)
/-- The chunk's window of the means. -/
abbrev wA (L : grid0.Coords) (t : Fin k0_t1_loop.trips) : Memref sig .scVector .hbm S128 .f32 :=
  mA.slice (Rect.unit (s := S98304) (k0_off31 L t) S128.size (k0_off31_inb L t)) (fun _ => rfl)

/-- The rows as a function of the row number (taken modulo the number of rows) and the column. -/
def rowsOf (X : S393216x128.Idx → Elt F .f32) (r c : ℕ) : F .f32 :=
  X (ix2 ⟨r % 393216, Nat.mod_lt _ (by decide)⟩ ⟨c % 128, Nat.mod_lt _ (by decide)⟩)
/-- The weights as a function of the row number. -/
def weightsOf (W : S393216.Idx → Elt F .f32) (r : ℕ) : F .f32 :=
  W (ix1 ⟨r % 393216, Nat.mod_lt _ (by decide)⟩)

/-- What the kernel leaves in its first result: every group's pooled row. -/
def pooledG (X : S393216x128.Idx → Elt F .f32) (W : S393216.Idx → Elt F .f32) : S98304x128.Idx → Elt F .f32 :=
  fun y => pooledAt (rowsOf X) (weightsOf W) (y 0).val (y 1).val
/-- The means of all the groups. -/
def meansG (W : S393216.Idx → Elt F .f32) : S98304.Idx → Elt F .f32 :=
  fun y => meanAt (weightsOf W) (y 0).val

/-- The chunk's rows, held. -/
abbrev xPts (d : Dev nD) (L : grid0.Coords) (t : Fin k0_t1_loop.trips) (X : S393216x128.Idx → Elt F .f32) : sProp 𝕄 :=
  (wX L t).view.loc (thr d L) ↦[(wX L t).view.set]{fullShare} X
/-- The chunk's weights, held. -/
abbrev wPts (d : Dev nD) (L : grid0.Coords) (t : Fin k0_t1_loop.trips) (W : S393216.Idx → Elt F .f32) : sProp 𝕄 :=
  (wW L t).view.loc (thr d L) ↦[(wW L t).view.set]{fullShare} W
/-- The chunk's pooled values, held. -/
abbrev pPts (d : Dev nD) (L : grid0.Coords) (t : Fin k0_t1_loop.trips) (f : S98304x128.Idx → Elt F .f32) : sProp 𝕄 :=
  (wP L t).view.loc (thr d L) ↦[(wP L t).view.set]{fullShare} f
/-- The chunk's means, held. -/
abbrev aPts (d : Dev nD) (L : grid0.Coords) (t : Fin k0_t1_loop.trips) (f : S98304.Idx → Elt F .f32) : sProp 𝕄 :=
  (wA L t).view.loc (thr d L) ↦[(wA L t).view.set]{fullShare} f

/-- The tile's scratches at any contents, its four semaphores at zero, and the waits it has recorded. -/
def scratch (d : Dev nD) (L : grid0.Coords) (O : CellTallies nD τ sig (HIx 1)) (W : Waits sig (HIx 1)) : sProp 𝕄 :=
  iprop((∃ f, bX.view.loc (thr d L) ↦{fullShare} f) ∗ (∃ f, bW.view.loc (thr d L) ↦{fullShare} f)
    ∗ (∃ f, bP.view.loc (thr d L) ↦{fullShare} f) ∗ (∃ f, bA.view.loc (thr d L) ↦{fullShare} f)
    ∗ semVal (thr d L, SemLoc.dma cc0_scoped0.sem) 0 ∗ semVal (thr d L, SemLoc.dma cc0_scoped1.sem) 0
    ∗ semVal (thr d L, SemLoc.dma cc0_scoped2.sem) 0 ∗ semVal (thr d L, SemLoc.dma cc0_scoped3.sem) 0
    ∗ ∃ W', ⌜∀ p ∈ W', p ∈ W ∨ p.2 = none⌝ ∗ owes (thr d L) O W')

/-- The chunk's rows, numbered from its first row. -/
def chunkRows (L : grid0.Coords) (t : Fin k0_t1_loop.trips) (X : S393216x128.Idx → Elt F .f32) (r c : ℕ) : F .f32 :=
  rowsOf X (4 * base L t + r) c
/-- The chunk's weights, numbered from the chunk's first row. -/
def chunkWeights (L : grid0.Coords) (t : Fin k0_t1_loop.trips) (W : S393216.Idx → Elt F .f32) (r : ℕ) : F .f32 :=
  weightsOf W (4 * base L t + r)

/-- The outer loop makes 24 trips. -/
theorem trips1 : k0_t1_loop.trips = 24 := by decide

/-- A chunk ends inside the array's 98304 groups. -/
theorem base_lt (L : grid0.Coords) (t : Fin k0_t1_loop.trips) : base L t + 128 ≤ 98304 := by
  have h1 : (L 1).val < 16 := (L 1).isLt
  have h0 : (L 0).val < 2 := (L 0).isLt
  have ht : t.val < 24 := trips1 ▸ t.isLt
  unfold base
  omega

/-- Where the chunk's rows start. -/
theorem off1_base (L : grid0.Coords) (t : Fin k0_t1_loop.trips) : k0_off1 L t = ![4 * base L t, 0] := by
  rw [k0_off1_eq]; congr 1; unfold base; omega
/-- Where the chunk's weights start. -/
theorem off2_base (L : grid0.Coords) (t : Fin k0_t1_loop.trips) : k0_off2 L t = ![4 * base L t] := by
  rw [k0_off2_eq]; congr 1; unfold base; omega
/-- Where the chunk's pooled values start. -/
theorem off30_base (L : grid0.Coords) (t : Fin k0_t1_loop.trips) : k0_off30 L t = ![base L t, 0] := k0_off30_eq L t
/-- Where the chunk's means start. -/
theorem off31_base (L : grid0.Coords) (t : Fin k0_t1_loop.trips) : k0_off31 L t = ![base L t] := k0_off31_eq L t

omit [FloatOps F] in
/-- The chunk's row window reads the chunk's rows. -/
theorem read_wX (L : grid0.Coords) (t : Fin k0_t1_loop.trips) (X : S393216x128.Idx → Elt F .f32) (y : S512x128.Idx) :
    (wX L t).view.read (Elt F) X y = chunkRows L t X (y 0).val (y 1).val := by
  have hb := base_lt L t
  have h0 : (y 0).val < 512 := (y 0).isLt
  have h1 : (y 1).val < 128 := (y 1).isLt
  change X ((Rect.unit (s := S393216x128) (k0_off1 L t) S512x128.size (k0_off1_inb L t)).emb y) = _
  refine congrArg X (funext fun a => Fin.ext ?_)
  rw [Rect.emb_apply]
  match a with
  | 0 => simp [off1_base, ix2]; omega
  | 1 => simp [off1_base, ix2]; omega

omit [FloatOps F] in
/-- The chunk's weight window reads the chunk's weights. -/
theorem read_wW (L : grid0.Coords) (t : Fin k0_t1_loop.trips) (W : S393216.Idx → Elt F .f32) (y : S512.Idx) :
    (wW L t).view.read (Elt F) W y = chunkWeights L t W (y 0).val := by
  have hb := base_lt L t
  have h0 : (y 0).val < 512 := (y 0).isLt
  change W ((Rect.unit (s := S393216) (k0_off2 L t) S512.size (k0_off2_inb L t)).emb y) = _
  refine congrArg W (funext fun a => Fin.ext ?_)
  obtain rfl : a = 0 := Subsingleton.elim _ _
  rw [Rect.emb_apply]
  simp [off2_base, ix1]; omega

omit [FloatOps F] in
/-- The row copy leaves the chunk's rows in the row scratch. -/
theorem rows_land (d : Dev nD) (L : grid0.Coords) (t : Fin k0_t1_loop.trips) (X : S393216x128.Idx → Elt F .f32)
    (f : Buf (Elt F) (bX.view.loc (thr d L))) :
    RowsHeld d L (chunkRows L t X) (bX.view.write (Elt F) f ((wX L t).view.read (Elt F) X) Finset.univ) := by
  intro y
  rw [View.read_write_univ, read_wX]

omit [FloatOps F] in
/-- The weight copy leaves the chunk's weights in the first 512 places of the weight scratch. -/
theorem weights_land (d : Dev nD) (L : grid0.Coords) (t : Fin k0_t1_loop.trips) (W : S393216.Idx → Elt F .f32)
    (f : Buf (Elt F) (bW.view.loc (thr d L))) :
    WeightsHeld d L (chunkWeights L t W) (bW.view.writes (Elt F) f
      [⟨Rect.unit (s := S528) ![0] S512.size inb_S528_S512_0, (wW L t).view.read (Elt F) W⟩]) := by
  intro y hy
  refine (View.read_writes_cons_hit_of_coords _ _ _ _ _ (ix1 ⟨(y 0).val, hy⟩ : S512.Idx) y ?_).trans ?_
  · intro a
    obtain rfl : a = 0 := Subsingleton.elim _ _
    simp
  · rw [read_wW]; rfl

/-- The chunk's window of the pooled array, at a place: the row is moved by the chunk's first group. -/
theorem emb_wP (L : grid0.Coords) (t : Fin k0_t1_loop.trips) (y : S128x128.Idx) :
    ((wP L t).view.emb y 0).val = base L t + (y 0).val ∧ ((wP L t).view.emb y 1).val = (y 1).val := by
  change ((Rect.unit (s := S98304x128) (k0_off30 L t) S128x128.size (k0_off30_inb L t)).emb y 0).val = _
    ∧ ((Rect.unit (s := S98304x128) (k0_off30 L t) S128x128.size (k0_off30_inb L t)).emb y 1).val = _
  simp [off30_base]

/-- The chunk's window of the means' array, at a place. -/
theorem emb_wA (L : grid0.Coords) (t : Fin k0_t1_loop.trips) (y : S128.Idx) :
    ((wA L t).view.emb y 0).val = base L t + (y 0).val := by
  change ((Rect.unit (s := S98304) (k0_off31 L t) S128.size (k0_off31_inb L t)).emb y 0).val = _
  simp [off31_base]

/-- Copied out, the pooled scratch is the pooled array on the chunk's window. -/
theorem pooled_out (d : Dev nD) (L : grid0.Coords) (t : Fin k0_t1_loop.trips) (X : S393216x128.Idx → Elt F .f32)
    (W : S393216.Idx → Elt F .f32) (fp : S98304x128.Idx → Elt F .f32) (f : Buf (Elt F) (bP.view.loc (thr d L)))
    (h : PooledBelow d L (chunkRows L t X) (chunkWeights L t W) 128 f) :
    pPts d L t ((wP L t).view.writes (Elt F) fp [⟨Rect.whole S128x128, bP.view.read (Elt F) f⟩])
      = pPts d L t (pooledG X W) := by
  refine pointsTo_congr fun i hi => ?_
  obtain ⟨y, -, rfl⟩ := Finset.mem_map.mp hi
  refine (View.read_writes_cons_hit_of_coords (wP L t).view fp (Rect.whole S128x128) (bP.view.read (Elt F) f) [] y y
    (fun a => by simp [Rect.whole])).trans ?_
  rw [h y (y 0).isLt, pooledG, (emb_wP L t y).1, (emb_wP L t y).2, ← pooledAt_shift]
  rfl

/-- Copied out, the mean scratch is the means' array on the chunk's window. -/
theorem means_out (d : Dev nD) (L : grid0.Coords) (t : Fin k0_t1_loop.trips)
    (W : S393216.Idx → Elt F .f32) (fa : S98304.Idx → Elt F .f32) (f : Buf (Elt F) (bA.view.loc (thr d L)))
    (h : MeansBelow d L (chunkWeights L t W) 128 f) :
    aPts d L t ((wA L t).view.writes (Elt F) fa [⟨Rect.whole S128, bA.view.read (Elt F) f⟩])
      = aPts d L t (meansG W) := by
  refine pointsTo_congr fun i hi => ?_
  obtain ⟨y, -, rfl⟩ := Finset.mem_map.mp hi
  refine (View.read_writes_cons_hit_of_coords (wA L t).view fa (Rect.whole S128) (bA.view.read (Elt F) f) [] y y
    (fun a => by simp [Rect.whole])).trans ?_
  rw [h y (y 0).isLt, meansG, emb_wA L t y, ← meanAt_shift]
  rfl

/-- The mean loop's invariant: the weights held, the means of the groups done so far. -/
def meanInv (d : Dev nD) (L : grid0.Coords) (w : ℕ → F .f32) (fW : Buf (Elt F) (bW.view.loc (thr d L)))
    (k : ℕ) (_ : BitVec 32) : sProp 𝕄 :=
  iprop((bW.view.loc (thr d L) ↦{fullShare} fW)
    ∗ ∃ f, ⌜MeansBelow d L w (16 * k) f⌝ ∗ (bA.view.loc (thr d L) ↦{fullShare} f))

/-- The pooling loop's invariant: the rows and the weights held, the pooled rows of the groups done so far. -/
def poolInv (d : Dev nD) (L : grid0.Coords) (x : ℕ → ℕ → F .f32) (w : ℕ → F .f32)
    (fX : Buf (Elt F) (bX.view.loc (thr d L))) (fW : Buf (Elt F) (bW.view.loc (thr d L)))
    (k : ℕ) (_ : BitVec 32) : sProp 𝕄 :=
  iprop((bX.view.loc (thr d L) ↦{fullShare} fX) ∗ (bW.view.loc (thr d L) ↦{fullShare} fW)
    ∗ ∃ f, ⌜PooledBelow d L x w k f⌝ ∗ (bP.view.loc (thr d L) ↦{fullShare} f))

/-- A trip of the outer loop: the chunk's windows of the results take the chunk's part of the pooled
    array and of the means' array. -/
theorem chunk (d : Dev nD) (L : grid0.Coords) (v2 : BitVec 32) (t : Fin k0_t1_loop.trips) (acc : BitVec 32)
    (X : S393216x128.Idx → Elt F .f32) (W : S393216.Idx → Elt F .f32)
    (fp : S98304x128.Idx → Elt F .f32) (fa : S98304.Idx → Elt F .f32)
    (O : CellTallies nD τ sig (HIx 1)) (Wt : Waits sig (HIx 1)) :
    (iprop(Transfers.MayWaits (thr d L) (none : HIx 1) O ∗ xPts d L t X ∗ wPts d L t W ∗ pPts d L t fp
        ∗ aPts d L t fa ∗ scratch d L O Wt) : sProp 𝕄)
      ⊢ wp frame (wpE (defs₀ (F := F)) 𝒱₀ (thr d L) none) Set.univ
          (chunkBody (F := F) L v2 (iota .scVector S16 32 [0] iota_S16_d0_w32_scVector) t acc) fun _ =>
        iprop(xPts d L t X ∗ wPts d L t W ∗ pPts d L t (pooledG X W) ∗ aPts d L t (meansG W) ∗ scratch d L O Wt) := by
  unfold chunkBody k0_t1_body
  rw [wp_bind, k0_part11_eq_skeleton]
  unfold k0_part11_skel scratch
  iintro ⟨Hmw, Hx, Hw, Hp, Ha, ⟨%fX, HX⟩, ⟨%fW, HW⟩, ⟨%fP, HP⟩, ⟨%fA, HA⟩, Hs0, Hs1, Hs2, Hs3, %W', %hW', HO⟩
  sl_exec (disch := first | exact View.amount_pos _ _ (show 0 < S512x128.numel by decide) | exact View.amount_pos _ _ (show 0 < S512.numel by decide))
  sl_for (meanInv d L (chunkWeights L t W) _) $$ [HW HA]
  case region =>
    intro k c
    unfold meanInv
    iintro ⟨HW, %f, %hf, HA⟩
    iapply (mean_trip d L v2 t k c _ _ f (weights_land d L t W fW) hf) $$ [HW HA]
    isplitl [HW] <;> iassumption
  · unfold meanInv
    isplitl [HW]; · iexact HW
    iexists fA; isplitr
    · ipureintro; exact fun y hy => absurd hy (Nat.not_lt_zero _)
    · iexact HA
  iintro %_ HI
  unfold meanInv
  icases HI with ⟨HW, %fA', %hA, HA⟩
  sl_exec
  sl_for (poolInv d L (chunkRows L t X) (chunkWeights L t W) _ _) $$ [HX HW HP]
  case region =>
    intro k c
    unfold poolInv
    iintro ⟨HX, HW, %f, %hf, HP⟩
    iapply (pool_trip d L v2 _ t k c _ _ _ _ f (rows_land d L t X fX) (weights_land d L t W fW) hf) $$ [HX HW HP]
    isplitl [HX]; · iexact HX
    isplitl [HW] <;> iassumption
  · unfold poolInv
    isplitl [HX]; · iexact HX
    isplitl [HW]; · iexact HW
    iexists fP; isplitr
    · ipureintro; exact fun y hy => absurd hy (Nat.not_lt_zero _)
    · iexact HP
  iintro %_ HI
  unfold poolInv
  icases HI with ⟨HX, HW, %fP', %hP, HP⟩
  sl_exec (disch := first | exact View.amount_pos _ _ (show 0 < S128x128.numel by decide) | exact View.amount_pos _ _ (show 0 < S128.numel by decide))
  sl_step
  isplitl [Hx]; · iexact Hx
  isplitl [Hw]; · iexact Hw
  isplitl [Hp]; · iapply (Entails.of_eq (pooled_out d L t X W fp fP' hP)); iexact Hp
  isplitl [Ha]; · iapply (Entails.of_eq (means_out d L t W fa fA' hA)); iexact Ha
  isplitl [HX]; · iexists _; iexact HX
  isplitl [HW]; · iexists _; iexact HW
  isplitl [HP]; · iexists _; iexact HP
  isplitl [HA]; · iexists _; iexact HA
  isplitl [Hs0]; · iexact Hs0
  isplitl [Hs1]; · iexact Hs1
  isplitl [Hs2]; · iexact Hs2
  isplitl [Hs3]; · iexact Hs3
  iexists _; isplitr
  rotate_left
  · iexact HO
  ipureintro
  intro p hp
  simp only [Finset.mem_insert] at hp
  rcases hp with rfl | rfl | rfl | rfl | hp
  · exact .inr rfl
  · exact .inr rfl
  · exact .inr rfl
  · exact .inr rfl
  · exact hW' p hp

end Cert.Proof.Tile

end
-- ==== Proof.Body.lean ====
/- A tile's whole run: its twenty-four chunks in turn, from the windows of the four arrays that the
   tile holds to the same windows with the results written. -/
module

public import proofs.«01_k».proof.Proof.Chunk

@[expose] public section

noncomputable section

namespace Cert.Proof.Tile

open Cert.KernelIdeal Cert.KernelIdeal.Gen
open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Pool Cert.Proof.Block

variable {F : FTy → Type} [FloatOps F]

local notation "𝕄" => MT nD τ sig (HIx 1) (Elt F) ℕ UU ℕ

/-- What a tile holds of the four arrays: each chunk's windows, the rows and weights at `X` and `W`,
    the results at `fp` and `fa`. -/
def tileRes (d : Dev nD) (L : grid0.Coords) (X : S393216x128.Idx → Elt F .f32) (W : S393216.Idx → Elt F .f32)
    (fp : S98304x128.Idx → Elt F .f32) (fa : S98304.Idx → Elt F .f32) : sProp 𝕄 :=
  bigSep Finset.univ fun t : Fin k0_t1_loop.trips =>
    iprop(xPts d L t X ∗ wPts d L t W ∗ pPts d L t fp ∗ aPts d L t fa)

/-- Chunk `t`'s windows after `k` trips: written where the trip is past. -/
def chunkAt (d : Dev nD) (L : grid0.Coords) (X : S393216x128.Idx → Elt F .f32) (W : S393216.Idx → Elt F .f32)
    (fp : S98304x128.Idx → Elt F .f32) (fa : S98304.Idx → Elt F .f32) (k : ℕ) (t : Fin k0_t1_loop.trips) : sProp 𝕄 :=
  iprop(xPts d L t X ∗ wPts d L t W ∗ pPts d L t (if t.val < k then pooledG X W else fp)
    ∗ aPts d L t (if t.val < k then meansG W else fa))

/-- The outer loop's invariant. -/
def tileInv (d : Dev nD) (L : grid0.Coords) (X : S393216x128.Idx → Elt F .f32) (W : S393216.Idx → Elt F .f32)
    (fp : S98304x128.Idx → Elt F .f32) (fa : S98304.Idx → Elt F .f32)
    (O : CellTallies nD τ sig (HIx 1)) (Wt : Waits sig (HIx 1)) (k : ℕ) (_ : BitVec 32) : sProp 𝕄 :=
  iprop(Transfers.MayWaits (thr d L) (none : HIx 1) O
    ∗ (bigSep Finset.univ fun t : Fin k0_t1_loop.trips => chunkAt d L X W fp fa k t) ∗ scratch d L O Wt)

/-- Past the trip, the other chunks' windows are as they were. -/
theorem chunks_step (d : Dev nD) (L : grid0.Coords) (X : S393216x128.Idx → Elt F .f32) (W : S393216.Idx → Elt F .f32)
    (fp : S98304x128.Idx → Elt F .f32) (fa : S98304.Idx → Elt F .f32) (k : Fin k0_t1_loop.trips) :
    (bigSep (Finset.univ.erase k) fun t => chunkAt (F := F) d L X W fp fa k.val t)
      = bigSep (Finset.univ.erase k) fun t => chunkAt d L X W fp fa (k.val + 1) t := by
  refine bigSep_congr fun t ht => ?_
  have hne : t.val ≠ k.val := fun e => (Finset.mem_erase.mp ht).1 (Fin.ext e)
  have hiff : t.val < k.val + 1 ↔ t.val < k.val := by omega
  simp only [chunkAt, hiff]

/-- The tile's program, from its windows, its scratches and semaphores, to the results written. -/
theorem tile_run (d : Dev nD) (L : grid0.Coords) (X : S393216x128.Idx → Elt F .f32) (W : S393216.Idx → Elt F .f32)
    (fp : S98304x128.Idx → Elt F .f32) (fa : S98304.Idx → Elt F .f32)
    (O : CellTallies nD τ sig (HIx 1)) (Wt : Waits sig (HIx 1)) :
    (iprop(Transfers.MayWaits (thr d L) (none : HIx 1) O ∗ tileRes d L X W fp fa ∗ scratch d L O Wt) : sProp 𝕄)
      ⊢ wp frame (wpE (defs₀ (F := F)) 𝒱₀ (thr d L) none) Set.univ (tileProg (F := F) L) fun _ =>
        iprop(tileRes d L X W (pooledG X W) (meansG W) ∗ scratch d L O Wt) := by
  unfold tileProg
  rw [cc0_k_eq_skeleton]
  unfold cc0_k_skel
  iintro ⟨Hmw, Hres, Hscr⟩
  sl_exec
  sl_for (tileInv d L X W fp fa O Wt) $$ [Hmw Hres Hscr]
  case region =>
    intro k c
    unfold tileInv
    rw [SparseCore.bigSep_erase' (Finset.mem_univ k), SparseCore.bigSep_erase' (Finset.mem_univ k), chunks_step]
    iintro ⟨#Hmw, ⟨Hk, Hrest⟩, Hscr⟩
    ihave Hk' := (Entails.of_eq (show chunkAt d L X W fp fa k.val k
      = iprop(xPts d L k X ∗ wPts d L k W ∗ pPts d L k fp ∗ aPts d L k fa) by simp only [chunkAt, lt_irrefl, if_false])) $$ Hk
    iapply (wp_wand_r _ _ _)
    isplitl [Hk' Hscr]
    · iapply (chunk d L _ k c X W fp fa O Wt)
      icases Hk' with ⟨Hx, Hw, Hp, Ha⟩
      isplitr; · iexact Hmw
      isplitl [Hx]; · iexact Hx
      isplitl [Hw]; · iexact Hw
      isplitl [Hp]; · iexact Hp
      isplitl [Ha]; · iexact Ha
      iexact Hscr
    iintro %_ ⟨Hx, Hw, Hp, Ha, Hscr⟩
    isplitr; · iexact Hmw
    isplitr [Hscr]
    · isplitr [Hrest]
      · iapply (Entails.of_eq (show iprop(xPts d L k X ∗ wPts d L k W ∗ pPts d L k (pooledG X W) ∗ aPts d L k (meansG W))
            = chunkAt d L X W fp fa (k.val + 1) k by
          simp only [chunkAt, Nat.lt_succ_self, if_true]))
        isplitl [Hx]; · iexact Hx
        isplitl [Hw]; · iexact Hw
        isplitl [Hp] <;> iassumption
      · iexact Hrest
    · iexact Hscr
  · unfold tileInv
    isplitl [Hmw]; · iexact Hmw
    isplitl [Hres]
    · iapply (Entails.of_eq (show tileRes d L X W fp fa = bigSep Finset.univ fun t => chunkAt d L X W fp fa 0 t by
        unfold tileRes chunkAt; simp only [Nat.not_lt_zero, if_false])); iexact Hres
    · iexact Hscr
  iintro %_ HI
  unfold tileInv
  icases HI with ⟨-, Hres, Hscr⟩
  sl_exec
  sl_step
  isplitl [Hres]
  · iapply (Entails.of_eq (show (bigSep Finset.univ fun t => chunkAt d L X W fp fa k0_t1_loop.trips t)
        = tileRes d L X W (pooledG X W) (meansG W) by
      unfold tileRes chunkAt; simp only [Fin.is_lt, if_true])); iexact Hres
  · iexact Hscr

end Cert.Proof.Tile

end
-- ==== Proof.Windows.lean ====
/- The chunks' windows part the four arrays: each row lies in the window of exactly one chunk, so an
   array held whole is the same as its windows held, over the cores, their tiles and the tiles' chunks. -/
module

public import proofs.«01_k».proof.Proof.Body

@[expose] public section

noncomputable section

namespace Cert.Proof.Tile

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Proof.Pool

variable {F : FTy → Type}

local notation "𝕄" => MT nD τ sig (HIx 1) (Elt F) ℕ UU ℕ

/-- The grid coordinates of tile `i` of core `c`, the numbers taken modulo the grid's extents. -/
def tileAt (c i : ℕ) : grid0.Coords :=
  fun | 0 => ⟨c % 2, Nat.mod_lt _ (by decide)⟩ | 1 => ⟨i % 16, Nat.mod_lt _ (by decide)⟩
      | ⟨_ + 2, h⟩ => absurd h (Nat.not_lt.2 (Nat.le_add_left _ _))

/-- A core, a tile of it, and a chunk of the tile. -/
abbrev Place : Type := Fin 2 × Fin 16 × Fin k0_t1_loop.trips

/-- The chunk's number in the whole launch. -/
def chunkNo (p : Place) : ℕ := 48 * p.2.1.val + 24 * p.1.val + p.2.2.val

/-- A chunk's first group is 128 times the chunk's number. -/
theorem base_chunkNo (p : Place) : base (tileAt p.1.val p.2.1.val) p.2.2 = 128 * chunkNo p := by
  have h1 : p.1.val % 2 = p.1.val := Nat.mod_eq_of_lt p.1.isLt
  have h2 : p.2.1.val % 16 = p.2.1.val := Nat.mod_eq_of_lt p.2.1.isLt
  have e0 : (tileAt p.1.val p.2.1.val 0).val = p.1.val % 2 := rfl
  have e1 : (tileAt p.1.val p.2.1.val 1).val = p.2.1.val % 16 := rfl
  unfold base chunkNo
  rw [e0, e1, h1, h2]
  omega

/-- Two chunks of the same number are the same. -/
theorem chunkNo_inj {p p' : Place} (h : chunkNo p = chunkNo p') : p = p' := by
  obtain ⟨c, i, t⟩ := p
  obtain ⟨c', i', t'⟩ := p'
  have ht : t.val < 24 := trips1 ▸ t.isLt
  have ht' : t'.val < 24 := trips1 ▸ t'.isLt
  have hc := c.isLt
  have hc' := c'.isLt
  simp only [chunkNo] at h
  obtain rfl : i = i' := Fin.ext (by omega)
  obtain rfl : c = c' := Fin.ext (by omega)
  obtain rfl : t = t' := Fin.ext (by omega)
  rfl

/-- Every number below 768 is a chunk's. -/
theorem chunkNo_surj {n : ℕ} (h : n < 768) : ∃ p : Place, chunkNo p = n := by
  refine ⟨⟨⟨n / 24 % 2, by omega⟩, ⟨n / 48, by omega⟩, ⟨n % 24, by rw [trips1]; omega⟩⟩, ?_⟩
  simp only [chunkNo]
  omega

/-- A buffer whose elements each lie in the set of the one chunk that `g` numbers: held whole, it is held
    set by set. -/
theorem parted (ℓ : Loc nD τ sig) (Kf : Place → Finset (Idx ℓ)) (g : Idx ℓ → ℕ) (hg : ∀ i, g i < 768)
    (h : ∀ p i, i ∈ Kf p ↔ g i = chunkNo p) (f : Buf (Elt F) ℓ) :
    (ℓ ↦{fullShare} f : sProp 𝕄) = bigSep Finset.univ fun c : Fin 2 => bigSep Finset.univ fun i : Fin 16 =>
      bigSep Finset.univ fun t : Fin k0_t1_loop.trips => ℓ ↦[Kf (c, i, t)]{fullShare} f := by
  have hcov : (Finset.univ : Finset Place).biUnion Kf = Finset.univ := by
    ext i
    obtain ⟨p, hp⟩ := chunkNo_surj (hg i)
    simp only [Finset.mem_biUnion, Finset.mem_univ, true_and, iff_true]
    exact ⟨p, (h p i).mpr hp.symm⟩
  have hdis : ∀ p ∈ (Finset.univ : Finset Place), ∀ p' ∈ (Finset.univ : Finset Place), p ≠ p' → Disjoint (Kf p) (Kf p') :=
    fun p _ p' _ hne => Finset.disjoint_left.mpr fun i hi hi' =>
      hne (chunkNo_inj (((h p i).mp hi).symm.trans ((h p' i).mp hi')))
  have hs : (ℓ ↦[Finset.univ.biUnion Kf]{fullShare} f : sProp 𝕄) = _ := pointsTo_biUnion Finset.univ Kf hdis
  rw [hcov] at hs
  rw [hs, BI.bigSep_univ_prod]
  exact bigSep_congr fun c _ => BI.bigSep_univ_prod _

/-- A place of the row array lies in a chunk's window iff its row does. -/
theorem mem_wX (L : grid0.Coords) (t : Fin k0_t1_loop.trips) {n : ℕ} (hn : base L t = 128 * n) (y : S393216x128.Idx) :
    y ∈ (wX L t).view.set ↔ (y 0).val / 512 = n := by
  have hs : (wX L t).view.set = (Rect.unit (s := S393216x128) (k0_off1 L t) S512x128.size (k0_off1_inb L t)).set := by
    show ((View.whole main_v0_scv).slice _).set = _
    rw [View.set_slice]; exact Finset.map_refl
  have h1 : (y 1).val < 128 := (y 1).isLt
  rw [hs, Rect.mem_set_unit, off1_base, hn]
  constructor
  · intro h
    have := h 0
    simp at this
    omega
  · intro h a
    match a with
    | 0 => simp; omega
    | 1 => simp; omega

/-- A place of the weight array lies in a chunk's window iff its row does. -/
theorem mem_wW (L : grid0.Coords) (t : Fin k0_t1_loop.trips) {n : ℕ} (hn : base L t = 128 * n) (y : S393216.Idx) :
    y ∈ (wW L t).view.set ↔ (y 0).val / 512 = n := by
  have hs : (wW L t).view.set = (Rect.unit (s := S393216) (k0_off2 L t) S512.size (k0_off2_inb L t)).set := by
    show ((View.whole main_v1_scv).slice _).set = _
    rw [View.set_slice]; exact Finset.map_refl
  rw [hs, Rect.mem_set_unit, off2_base, hn]
  constructor
  · intro h
    have := h 0
    simp at this
    omega
  · intro h a
    obtain rfl : a = 0 := Subsingleton.elim _ _
    simp; omega

/-- A place of the pooled array lies in a chunk's window iff its group does. -/
theorem mem_wP (L : grid0.Coords) (t : Fin k0_t1_loop.trips) {n : ℕ} (hn : base L t = 128 * n) (y : S98304x128.Idx) :
    y ∈ (wP L t).view.set ↔ (y 0).val / 128 = n := by
  have hs : (wP L t).view.set = (Rect.unit (s := S98304x128) (k0_off30 L t) S128x128.size (k0_off30_inb L t)).set := by
    show ((View.whole main_v2_0_scv).slice _).set = _
    rw [View.set_slice]; exact Finset.map_refl
  have h1 : (y 1).val < 128 := (y 1).isLt
  rw [hs, Rect.mem_set_unit, off30_base, hn]
  constructor
  · intro h
    have := h 0
    simp at this
    omega
  · intro h a
    match a with
    | 0 => simp; omega
    | 1 => simp; omega

/-- A place of the means' array lies in a chunk's window iff its group does. -/
theorem mem_wA (L : grid0.Coords) (t : Fin k0_t1_loop.trips) {n : ℕ} (hn : base L t = 128 * n) (y : S98304.Idx) :
    y ∈ (wA L t).view.set ↔ (y 0).val / 128 = n := by
  have hs : (wA L t).view.set = (Rect.unit (s := S98304) (k0_off31 L t) S128.size (k0_off31_inb L t)).set := by
    show ((View.whole main_v2_1_scv).slice _).set = _
    rw [View.set_slice]; exact Finset.map_refl
  rw [hs, Rect.mem_set_unit, off31_base, hn]
  constructor
  · intro h
    have := h 0
    simp at this
    omega
  · intro h a
    obtain rfl : a = 0 := Subsingleton.elim _ _
    simp; omega

/-- Whole, the row array is its chunks' windows. -/
theorem xPts_parted (d : Dev nD) (X : S393216x128.Idx → Elt F .f32) :
    ((SparseCore.T d).loc main_v0 ↦{fullShare} X : sProp 𝕄) = bigSep Finset.univ fun c : Fin 2 => bigSep Finset.univ fun i : Fin 16 =>
      bigSep Finset.univ fun t : Fin k0_t1_loop.trips => xPts d (tileAt c.val i.val) t X :=
  parted ((SparseCore.T d).loc main_v0) (fun p => (wX (tileAt p.1.val p.2.1.val) p.2.2).view.set) (fun y => (y 0).val / 512)
    (fun y => by have h : (y 0).val < 393216 := (y 0).isLt; omega) (fun p y => mem_wX _ _ (base_chunkNo p) y) X

/-- Whole, the weight array is its chunks' windows. -/
theorem wPts_parted (d : Dev nD) (W : S393216.Idx → Elt F .f32) :
    ((SparseCore.T d).loc main_v1 ↦{fullShare} W : sProp 𝕄) = bigSep Finset.univ fun c : Fin 2 => bigSep Finset.univ fun i : Fin 16 =>
      bigSep Finset.univ fun t : Fin k0_t1_loop.trips => wPts d (tileAt c.val i.val) t W :=
  parted ((SparseCore.T d).loc main_v1) (fun p => (wW (tileAt p.1.val p.2.1.val) p.2.2).view.set) (fun y => (y 0).val / 512)
    (fun y => by have h : (y 0).val < 393216 := (y 0).isLt; omega) (fun p y => mem_wW _ _ (base_chunkNo p) y) W

/-- Whole, the pooled array is its chunks' windows. -/
theorem pPts_parted (d : Dev nD) (f : S98304x128.Idx → Elt F .f32) :
    ((SparseCore.T d).loc main_v2_0 ↦{fullShare} f : sProp 𝕄) = bigSep Finset.univ fun c : Fin 2 => bigSep Finset.univ fun i : Fin 16 =>
      bigSep Finset.univ fun t : Fin k0_t1_loop.trips => pPts d (tileAt c.val i.val) t f :=
  parted ((SparseCore.T d).loc main_v2_0) (fun p => (wP (tileAt p.1.val p.2.1.val) p.2.2).view.set) (fun y => (y 0).val / 128)
    (fun y => by have h : (y 0).val < 98304 := (y 0).isLt; omega) (fun p y => mem_wP _ _ (base_chunkNo p) y) f

/-- Whole, the means' array is its chunks' windows. -/
theorem aPts_parted (d : Dev nD) (f : S98304.Idx → Elt F .f32) :
    ((SparseCore.T d).loc main_v2_1 ↦{fullShare} f : sProp 𝕄) = bigSep Finset.univ fun c : Fin 2 => bigSep Finset.univ fun i : Fin 16 =>
      bigSep Finset.univ fun t : Fin k0_t1_loop.trips => aPts d (tileAt c.val i.val) t f :=
  parted ((SparseCore.T d).loc main_v2_1) (fun p => (wA (tileAt p.1.val p.2.1.val) p.2.2).view.set) (fun y => (y 0).val / 128)
    (fun y => by have h : (y 0).val < 98304 := (y 0).isLt; omega) (fun p y => mem_wA _ _ (base_chunkNo p) y) f

/-- The four arrays held whole are what the tiles of the two cores hold between them. -/
theorem arrays_parted (d : Dev nD) (X : S393216x128.Idx → Elt F .f32) (W : S393216.Idx → Elt F .f32)
    (fp : S98304x128.Idx → Elt F .f32) (fa : S98304.Idx → Elt F .f32) :
    (iprop(((SparseCore.T d).loc main_v0 ↦{fullShare} X) ∗ ((SparseCore.T d).loc main_v1 ↦{fullShare} W) ∗ ((SparseCore.T d).loc main_v2_0 ↦{fullShare} fp)
        ∗ ((SparseCore.T d).loc main_v2_1 ↦{fullShare} fa)) : sProp 𝕄)
      = bigSep Finset.univ fun c : Fin 2 => bigSep Finset.univ fun i : Fin 16 => tileRes d (tileAt c.val i.val) X W fp fa := by
  rw [xPts_parted, wPts_parted, pPts_parted, aPts_parted]
  simp only [← bigSep_sep']
  rfl

end Cert.Proof.Tile

end
-- ==== Proof.Tasks.lean ====
/- The launch's obligations for the tiles: what the call hands each tile and takes back, the tile's task
   meeting it, and the cores' shares dealt to their tiles. -/
module

public import proofs.«01_k».proof.Proof.Windows

@[expose] public section

noncomputable section

namespace Cert.Proof.Tile

open Cert.KernelIdeal Cert.KernelIdeal.Gen
open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Proof.Pool

variable {F : FTy → Type}

local notation "𝕄" => MT nD τ sig (HIx 1) (Elt F) ℕ UU ℕ

/-- The configuration's side conditions. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide,
    show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide,
    fun _ => rfl⟩

section

variable (d : Dev nD) (L : grid0.Coords)

/-- The semaphore of the rows' copy in. -/
abbrev sem0 : GSem nD τ sig := (thr d L, SemLoc.dma cc0_scoped0.sem)
/-- The semaphore of the weights' copy in. -/
abbrev sem1 : GSem nD τ sig := (thr d L, SemLoc.dma cc0_scoped1.sem)
/-- The semaphore of the pooled values' copy out. -/
abbrev sem2 : GSem nD τ sig := (thr d L, SemLoc.dma cc0_scoped2.sem)
/-- The semaphore of the means' copy out. -/
abbrev sem3 : GSem nD τ sig := (thr d L, SemLoc.dma cc0_scoped3.sem)

/-- The kernel's four semaphores are among the tile's own: the tile's are these and the rest. -/
theorem ownSems0_tile :
    (ownSems0 (thr d L) : sProp 𝕄)
      = iprop(semVal (sem0 d L) 0 ∗ semVal (sem1 d L) 0 ∗ semVal (sem2 d L) 0 ∗ semVal (sem3 d L) 0
          ∗ bigSep (((((ownCells (thr d L)).erase (sem0 d L)).erase (sem1 d L)).erase (sem2 d L)).erase (sem3 d L))
              fun g => semVal g 0) := by
  have m0 : sem0 d L ∈ ownCells (thr d L) :=
    mem_ownCells.mpr ⟨rfl, show (SemLoc.dma cc0_scoped0.sem : SemLoc sig).isScoped .scVector = true by decide⟩
  have m1 : sem1 d L ∈ ownCells (thr d L) :=
    mem_ownCells.mpr ⟨rfl, show (SemLoc.dma cc0_scoped1.sem : SemLoc sig).isScoped .scVector = true by decide⟩
  have m2 : sem2 d L ∈ ownCells (thr d L) :=
    mem_ownCells.mpr ⟨rfl, show (SemLoc.dma cc0_scoped2.sem : SemLoc sig).isScoped .scVector = true by decide⟩
  have m3 : sem3 d L ∈ ownCells (thr d L) :=
    mem_ownCells.mpr ⟨rfl, show (SemLoc.dma cc0_scoped3.sem : SemLoc sig).isScoped .scVector = true by decide⟩
  have ne : ∀ a b : SemLoc sig, a ≠ b → ((thr d L, a) : GSem nD τ sig) ≠ (thr d L, b) := fun a b h e => h (Prod.mk.inj e).2
  unfold SparseCore.Cfg.ownSems0
  rw [SparseCore.bigSep_erase' m0,
    SparseCore.bigSep_erase' (Finset.mem_erase.mpr ⟨ne _ _ (by decide), m1⟩),
    SparseCore.bigSep_erase' (Finset.mem_erase.mpr ⟨ne _ _ (by decide), Finset.mem_erase.mpr ⟨ne _ _ (by decide), m2⟩⟩),
    SparseCore.bigSep_erase' (Finset.mem_erase.mpr ⟨ne _ _ (by decide), Finset.mem_erase.mpr ⟨ne _ _ (by decide),
      Finset.mem_erase.mpr ⟨ne _ _ (by decide), m3⟩⟩⟩)]

/-- The tile's scratches, as buffers of the device. -/
abbrev scr (r : Ref sig .scVector) : DevRef τ sig := (Proc.scVector (cV L) (jV L)).devRef r

/-- The kernel's four scratches are among the tile's own buffers: the tile's are these and the rest. -/
theorem ownBufs_tile :
    (ownBufs (thr d L) : sProp 𝕄)
      = iprop((∃ f, bX.view.loc (thr d L) ↦{fullShare} f) ∗ (∃ f, bW.view.loc (thr d L) ↦{fullShare} f)
          ∗ (∃ f, bP.view.loc (thr d L) ↦{fullShare} f) ∗ (∃ f, bA.view.loc (thr d L) ↦{fullShare} f)
          ∗ bigSep (((((ownRefs (τ := τ) (.scVector (cV L) (jV L))).erase (scr L cc0_scratch0)).erase (scr L cc0_scratch1)).erase
              (scr L cc0_scratch2)).erase (scr L cc0_scratch3)) fun b => iprop(∃ f, ((d, b) : Loc nD τ sig) ↦{fullShare} f)) := by
  have mem : ∀ r : Ref sig .scVector, (scr L r).owner = .proc (.scVector (cV L) (jV L)) → scr L r ∈ ownRefs (τ := τ) (.scVector (cV L) (jV L)) :=
    fun r h => SparseCore.Cfg.mem_ownRefs_of_owner (p := Proc.scVector (cV L) (jV L)) (b := scr L r) h
  have ne : ∀ a b : Ref sig .scVector, a ≠ b → scr L a ≠ scr L b := fun a b h e => h (Proc.devRef_injective _ e)
  unfold SparseCore.Cfg.ownBufs
  refine (SparseCore.bigSep_erase' (mem cc0_scratch0 rfl)).trans ?_
  rw [SparseCore.bigSep_erase' (Finset.mem_erase.mpr ⟨ne _ _ (by decide), mem cc0_scratch1 rfl⟩),
    SparseCore.bigSep_erase' (Finset.mem_erase.mpr ⟨ne _ _ (by decide), Finset.mem_erase.mpr ⟨ne _ _ (by decide), mem cc0_scratch2 rfl⟩⟩),
    SparseCore.bigSep_erase' (Finset.mem_erase.mpr ⟨ne _ _ (by decide), Finset.mem_erase.mpr ⟨ne _ _ (by decide),
      Finset.mem_erase.mpr ⟨ne _ _ (by decide), mem cc0_scratch3 rfl⟩⟩⟩)]

variable [FloatOps F]

/-- The tile's task: from its windows of the arrays, its own buffers and semaphores, to the results written
    in its windows, the buffers and semaphores given back. -/
theorem task (X : S393216x128.Idx → Elt F .f32) (W : S393216.Idx → Elt F .f32)
    (fp : S98304x128.Idx → Elt F .f32) (fa : S98304.Idx → Elt F .f32)
    (O : CellTallies nD τ sig (HIx 1)) (Wt : Waits sig (HIx 1)) (hO : ∀ g, O g none = 0) :
    (iprop(levAts (K (F := F)).L (K (F := F)).lev ∗ emp ∗ tileRes d L X W fp fa ∗ scopedBufs (thr d L)
        ∗ scopedSems0 (thr d L) ∗ owes (thr d L) O Wt) : sProp 𝕄)
      ⊢ wp frame (wpE (defs₀ (F := F)) 𝒱₀ (thr d L) none) Set.univ (tileProg (F := F) L) fun _ =>
        iprop(tileRes d L X W (pooledG X W) (meansG W) ∗ scopedBufs (thr d L) ∗ scopedSems0 (thr d L)
          ∗ ∃ W', ⌜∀ p ∈ W', p ∈ Wt ∨ p.2 = none⌝ ∗ owes (thr d L) O W') := by
  rw [(K (F := F)).scopedBufs_V facts d (cV L) (jV L), SparseCore.Cfg.scopedSems0_V (Val := Elt F) d (cV L) (jV L),
    ownSems0_tile, ownBufs_tile]
  iintro ⟨#Hlv, -, Hres, ⟨HX, HW, HP, HA, Hbufs⟩, ⟨Hs0, Hs1, Hs2, Hs3, Hsems⟩, HO⟩
  ihave Hmw := ((K (F := F)).mayWaits_none (thr := thr d L) hO) $$ Hlv
  iapply (wp_wand_r _ _ _)
  isplitr [Hbufs Hsems]
  · iapply (tile_run d L X W fp fa O Wt)
    isplitl [Hmw]; · iexact Hmw
    isplitl [Hres]; · iexact Hres
    unfold scratch
    isplitl [HX]; · iexact HX
    isplitl [HW]; · iexact HW
    isplitl [HP]; · iexact HP
    isplitl [HA]; · iexact HA
    isplitl [Hs0]; · iexact Hs0
    isplitl [Hs1]; · iexact Hs1
    isplitl [Hs2]; · iexact Hs2
    isplitl [Hs3]; · iexact Hs3
    iexists Wt; isplitr
    · ipureintro; exact fun p hp => .inl hp
    · iexact HO
  unfold scratch
  iintro %_ ⟨Hres, HX, HW, HP, HA, Hs0, Hs1, Hs2, Hs3, HO⟩
  isplitl [Hres]; · iexact Hres
  isplitl [HX HW HP HA Hbufs]
  · isplitl [HX]; · iexact HX
    isplitl [HW]; · iexact HW
    isplitl [HP]; · iexact HP
    isplitl [HA]; · iexact HA
    iexact Hbufs
  isplitl [Hs0 Hs1 Hs2 Hs3 Hsems]
  · isplitl [Hs0]; · iexact Hs0
    isplitl [Hs1]; · iexact Hs1
    isplitl [Hs2]; · iexact Hs2
    isplitl [Hs3]; · iexact Hs3
    iexact Hsems
  iexact HO

end

/-! ## The launch's memory and payloads -/

section

variable [FloatOps F] (m : (ℓ : Loc nD τ sig) → Buf (Elt F) ℓ)

/-- The rows that the call is given: the first argument laid flat. -/
def rowsIn (d : Dev nD) : S393216x128.Idx → Elt F .f32 :=
  shapeCast S393216x128 (m ((SparseCore.T d).loc main_arg0) : S2x196608x128.Idx → Elt F .f32) shapeCasts_S2x196608x128_S393216x128
/-- The weights that the call is given. -/
def weightsIn (d : Dev nD) : S393216.Idx → Elt F .f32 :=
  shapeCast S393216 (m ((SparseCore.T d).loc main_arg1) : S2x196608x1.Idx → Elt F .f32) shapeCasts_S2x196608x1_S393216

/-- What tile `i` of core `c` is handed. -/
def taskIn (d : Dev nD) (c i : ℕ) : sProp 𝕄 :=
  tileRes d (tileAt c i) (rowsIn m d) (weightsIn m d) (m ((SparseCore.T d).loc main_v2_0)) (m ((SparseCore.T d).loc main_v2_1))
/-- What tile `i` of core `c` hands back. -/
def taskOut (d : Dev nD) (c i : ℕ) : sProp 𝕄 :=
  tileRes d (tileAt c i) (rowsIn m d) (weightsIn m d) (pooledG (rowsIn m d) (weightsIn m d)) (meansG (weightsIn m d))

/-- What a tile is handed may be stored in a handshake. -/
instance taskIn_storable (d : Dev nD) (c i : ℕ) : BI.Storable (upEmb : UEmb _ 𝕄) (taskIn m d c i) := by
  unfold taskIn tileRes; infer_instance
/-- What a tile hands back may be stored in a handshake. -/
instance taskOut_storable (d : Dev nD) (c i : ℕ) : BI.Storable (upEmb : UEmb _ 𝕄) (taskOut m d c i) := by
  unfold taskOut tileRes; infer_instance

/-- What core `c` is handed: its tiles' shares. -/
def coreIn (d : Dev nD) (c : ℕ) : sProp 𝕄 := bigSep Finset.univ fun i : Fin 16 => taskIn m d c i.val
/-- What core `c` hands back. -/
def coreOut (d : Dev nD) (c : ℕ) : sProp 𝕄 := bigSep Finset.univ fun i : Fin 16 => taskOut m d c i.val

/-- What a core is handed may be stored. -/
instance coreIn_storable (d : Dev nD) (c : ℕ) : BI.Storable (upEmb : UEmb _ 𝕄) (coreIn m d c) := by
  unfold coreIn; infer_instance
/-- What a core hands back may be stored. -/
instance coreOut_storable (d : Dev nD) (c : ℕ) : BI.Storable (upEmb : UEmb _ 𝕄) (coreOut m d c) := by
  unfold coreOut; infer_instance

/-- The call's payloads: a core takes and gives back what its sixteen tiles do. -/
def P : (K (F := F)).Pay (nD := nD) (Val := Elt F) (Name := ℕ) (U := UU) where
  st := fun _ d c => coreIn m d c.val
  dn := fun _ d c => coreOut m d c.val
  go := fun _ d c i => taskIn m d c.val i.val
  td := fun _ d c i => taskOut m d c.val i.val
  x := fun _ _ => iprop(emp)

/-- All that the handshakes carry may be stored. -/
instance P_storable : (P (F := F) m).IsStorable where
  st _ _ _ := by unfold P; infer_instance
  dn _ _ _ := by unfold P; infer_instance
  go _ _ _ _ := by unfold P; infer_instance
  td _ _ _ _ := by unfold P; infer_instance

/-- The grid coordinates of core `c`'s tile `s`. -/
def tileOf (c : Fin (grid0.bound 0)) (s : Fin (grid0.bound 1)) : grid0.Coords :=
  fun | 0 => c | 1 => s | ⟨_ + 2, h⟩ => absurd h (Nat.not_lt.2 (Nat.le_add_left _ _))

omit [FloatOps F] in
/-- The tile at a pair of numbers in range is the tile at the pair. -/
theorem tileAt_val (c : Fin (grid0.bound 0)) (s : Fin (grid0.bound 1)) : tileAt c.val s.val = tileOf c s :=
  funext fun a => match a with
    | 0 => Fin.ext (Nat.mod_eq_of_lt c.isLt)
    | 1 => Fin.ext (Nat.mod_eq_of_lt s.isLt)
    | ⟨_ + 2, h⟩ => absurd h (Nat.not_lt.2 (Nat.le_add_left _ _))

/-- A vector subcore's label runs the kernel's function at its grid coordinates. -/
theorem defs₀_tile (c : Fin τ.nSC) (s : Fin τ.nSub) :
    defs₀ (F := F) (.scVector c s) 0 ()
      = SparseCore.onTile hcore0 hsub0 (fun c s => tileProg (F := F) (tileOf c s)) ⟨⟩ c s := rfl

omit [FloatOps F] in
/-- The waits a task leaves are of the kinds the launch admits. -/
theorem waits_weaken {t : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes t O W')
      ⊢ iprop(A ∗ B ∗ C ∗ ∃ W', ⌜∀ p ∈ W', p ∈ W ∨ p.2 = none ∨ p.2 = some q⌝ ∗ owes t O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- Every tile's task meets the call's payloads. -/
theorem tileObl : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_tile]; simp only [SparseCore.onTile, hc, and_self, ↓reduceDIte]
  have e : tileAt c.val i.val = tileOf ⟨_, hc.1⟩ ⟨_, hc.2⟩ := tileAt_val ⟨_, hc.1⟩ ⟨_, hc.2⟩
  have ein : (P m).go 0 d c i = tileRes d (tileOf ⟨_, hc.1⟩ ⟨_, hc.2⟩) (rowsIn m d) (weightsIn m d)
      (m ((SparseCore.T d).loc main_v2_0)) (m ((SparseCore.T d).loc main_v2_1)) := by
    show taskIn m d c.val i.val = _
    unfold taskIn; rw [e]
  have eout : (P m).td 0 d c i = tileRes d (tileOf ⟨_, hc.1⟩ ⟨_, hc.2⟩) (rowsIn m d) (weightsIn m d)
      (pooledG (rowsIn m d) (weightsIn m d)) (meansG (weightsIn m d)) := by
    show taskOut m d c.val i.val = _
    unfold taskOut; rw [e]
  rw [ein, eout]
  exact (task d (tileOf ⟨_, hc.1⟩ ⟨_, hc.2⟩) (rowsIn m d) (weightsIn m d) _ _ O W hO).trans
    (wp_mono frame _ _ fun _ => waits_weaken (q := 0))

/-- A core's share is its tiles' shares, both ways. -/
theorem vecSplit : (K (F := F)).VecSplit' (P m) 0 := by
  intro d c
  show coreIn m d c.val ⊢ |={Set.univ}=> iprop(
    (bigSep (Finset.univ : Finset (Fin 16)) fun i => taskIn m d c.val i.val)
    ∗ ((bigSep (Finset.univ : Finset (Fin 16)) fun i => taskOut m d c.val i.val)
      -∗ coreOut m d c.val))
  unfold coreIn coreOut
  iintro H; imodintro
  isplitl [H]; · iexact H
  iintro H; iexact H

omit [FloatOps F] in
/-- A family indexed by number, over two index types of one size. -/
theorem bigSep_numbers {n k : ℕ} (h : n = k) (Φ : ℕ → sProp 𝕄) :
    (bigSep Finset.univ fun c : Fin n => Φ c.val) = bigSep Finset.univ fun c : Fin k => Φ c.val := by subst h; rfl

/-- The call runs on two cores. -/
theorem nCore_zero : (K (F := F)).nCore 0 = 2 := rfl
/-- What the call hands a core. -/
theorem P_st (d : Dev nD) (c : Fin ((K (F := F)).nCore 0)) : (P m).st 0 d c = coreIn m d c.val := rfl
/-- What the call gets back from a core. -/
theorem P_dn (d : Dev nD) (c : Fin ((K (F := F)).nCore 0)) : (P m).dn 0 d c = coreOut m d c.val := rfl

/-- What the two cores take together: the four arrays, the rows and the weights in the first two. -/
theorem given (d : Dev nD) :
    (bigSep Finset.univ fun c : Fin ((K (F := F)).nCore 0) => (P m).st 0 d c)
      = iprop(((SparseCore.T d).loc main_v0 ↦{fullShare} rowsIn m d) ∗ ((SparseCore.T d).loc main_v1 ↦{fullShare} weightsIn m d)
          ∗ ((SparseCore.T d).loc main_v2_0 ↦{fullShare} m ((SparseCore.T d).loc main_v2_0))
          ∗ ((SparseCore.T d).loc main_v2_1 ↦{fullShare} m ((SparseCore.T d).loc main_v2_1))) :=
  (bigSep_congr fun c _ => P_st m d c).trans ((bigSep_numbers nCore_zero (coreIn m d)).trans (arrays_parted d _ _ _ _).symm)

/-- What the two cores give back: the four arrays, the results in the last two. -/
theorem taken (d : Dev nD) :
    (bigSep Finset.univ fun c : Fin ((K (F := F)).nCore 0) => (P m).dn 0 d c)
      = iprop(((SparseCore.T d).loc main_v0 ↦{fullShare} rowsIn m d) ∗ ((SparseCore.T d).loc main_v1 ↦{fullShare} weightsIn m d)
          ∗ ((SparseCore.T d).loc main_v2_0 ↦{fullShare} pooledG (rowsIn m d) (weightsIn m d))
          ∗ ((SparseCore.T d).loc main_v2_1 ↦{fullShare} meansG (weightsIn m d))) :=
  (bigSep_congr fun c _ => P_dn m d c).trans ((bigSep_numbers nCore_zero (coreOut m d)).trans (arrays_parted d _ _ _ _).symm)

end

end Cert.Proof.Tile

end
-- ==== Proof.Launch.lean ====
/- The program's run: the two reshapes, the call on the SparseCores, the two reshapes of its results; the
   arguments unchanged, each result the pooled array or the means' array at the result's shape. -/
module

public import proofs.«01_k».proof.Proof.Tasks

@[expose] public section

noncomputable section

namespace Cert.Proof.Tile

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within reshape_result reshape_result_ne)
open Cert.Proof.Pool

variable {F : FTy → Type} [FloatOps F]

local notation "𝕄" => MT nD τ sig (HIx 1) (Elt F) ℕ UU ℕ

/-- The launch's ghost element: the handshakes' rounds, nothing of the kernel's own. -/
def u₀ : UU := (initOf (K (F := F)).hsCells (K (F := F)).hsToks, 1)

variable (m : (ℓ : Loc nD τ sig) → Buf (Elt F) ℓ) (ρ : Dev nD → PrngReg)

omit [FloatOps F] in
/-- A family of empty resources is empty. -/
theorem bigSep_emp' {I : Type} (s : Finset I) : (bigSep s fun _ => iprop(emp)) = (iprop(emp) : sProp 𝕄) := bigSep_emp_const s

/-- The launch element gives the handshakes' rounds; the kernel asks for nothing of its own. -/
theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## The arrays of the program -/

/-- A buffer of the program's, as the device's. -/
abbrev arr (r : Ref sig .tc) : DevRef τ sig := Proc.devRef .tc r

/-- The program's nine arrays: three arguments, the call's two operands and two results, the two results. -/
abbrev S9 : Finset (DevRef τ sig) :=
  {arr main_arg0, arr main_arg1, arr main_arg2, arr main_v0, arr main_v1, arr main_v2_0, arr main_v2_1, arr main_v3, arr main_v4}

/-- Array `r` of device `d` whole at `f`. -/
abbrev at9 (d : Dev nD) (r : Ref sig .tc) (f : Buf (Elt F) ((SparseCore.T d : Thread nD τ).loc r)) : sProp 𝕄 :=
  (SparseCore.T d : Thread nD τ).loc r ↦{fullShare} f

omit [FloatOps F] in
/-- The nine arrays held together are the nine held one by one. -/
theorem held_S9 (d : Dev nD) (W : Valuation τ sig (Elt F)) :
    (held (SparseCore.T d) S9 W : sProp 𝕄) = iprop(at9 d main_arg0 (W (arr main_arg0)) ∗ at9 d main_arg1 (W (arr main_arg1))
      ∗ at9 d main_arg2 (W (arr main_arg2)) ∗ at9 d main_v0 (W (arr main_v0)) ∗ at9 d main_v1 (W (arr main_v1))
      ∗ at9 d main_v2_0 (W (arr main_v2_0)) ∗ at9 d main_v2_1 (W (arr main_v2_1)) ∗ at9 d main_v3 (W (arr main_v3))
      ∗ at9 d main_v4 (W (arr main_v4))) := by
  unfold held S9
  rw [SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), bigSep_singleton]

omit [FloatOps F] in
/-- The program's arrays at the launch are the nine. -/
theorem unscopedBufs_S9 (d : Dev nD) (W : Valuation τ sig (Elt F)) :
    (unscopedBufs d (fun b => W (arr b)) : sProp 𝕄) = held (SparseCore.T d) S9 W := by
  rw [held_S9]
  unfold unscopedBufs
  rw [show (Finset.univ.filter fun b : Ref sig .tc => ¬ b.isScoped)
      = {main_arg0, main_arg1, main_arg2, main_v0, main_v1, main_v2_0, main_v2_1, main_v3, main_v4} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), bigSep_singleton]

/-! ## The contents along the program -/

/-- The rows laid flat. -/
abbrev opX : HloOp τ sig (Elt F) := StableHlo.reshape main_arg0 main_v0 (rfl : (.f32 : EltTy) = .f32) shapeCasts_S2x196608x128_S393216x128
/-- The weights laid flat. -/
abbrev opW : HloOp τ sig (Elt F) := StableHlo.reshape main_arg1 main_v1 (rfl : (.f32 : EltTy) = .f32) shapeCasts_S2x196608x1_S393216
/-- The pooled values at the first result's shape. -/
abbrev opP : HloOp τ sig (Elt F) := StableHlo.reshape main_v2_0 main_v3 (rfl : (.f32 : EltTy) = .f32) shapeCasts_S98304x128_S2x49152x128
/-- The means at the second result's shape. -/
abbrev opA : HloOp τ sig (Elt F) := StableHlo.reshape main_v2_1 main_v4 (rfl : (.f32 : EltTy) = .f32) shapeCasts_S98304_S2x49152x1

/-- The first result. -/
def pooledOut (d : Dev nD) : S2x49152x128.Idx → Elt F .f32 :=
  shapeCast S2x49152x128 (pooledG (rowsIn m d) (weightsIn m d)) shapeCasts_S98304x128_S2x49152x128
/-- The second result. -/
def meansOut (d : Dev nD) : S2x49152x1.Idx → Elt F .f32 :=
  shapeCast S2x49152x1 (meansG (weightsIn m d)) shapeCasts_S98304_S2x49152x1

/-- The arrays at the launch, before the call, after it, and at the end. -/
def V0 (d : Dev nD) : Valuation τ sig (Elt F) := fun b => m (d, b)
/-- The arrays after the first two reshapes. -/
def V1 (d : Dev nD) : Valuation τ sig (Elt F) := opW.result (opX.result (V0 m d))
/-- The arrays after the call. -/
def V2 (d : Dev nD) : Valuation τ sig (Elt F) :=
  Function.update (Function.update (V1 m d) (arr main_v2_0) (pooledG (rowsIn m d) (weightsIn m d))) (arr main_v2_1) (meansG (weightsIn m d))
/-- The arrays at the end. -/
def V3 (d : Dev nD) : Valuation τ sig (Elt F) := opA.result (opP.result (V2 m d))

omit [FloatOps F] in
/-- The call is given the rows laid flat. -/
theorem V1_rows (d : Dev nD) : V1 m d (arr main_v0) = rowsIn m d := by
  unfold V1
  rw [reshape_result_ne (h := by decide), reshape_result]
  rfl
omit [FloatOps F] in
/-- The call is given the weights laid flat. -/
theorem V1_weights (d : Dev nD) : V1 m d (arr main_v1) = weightsIn m d := by
  unfold V1
  rw [reshape_result, reshape_result_ne (h := by decide)]
  rfl
omit [FloatOps F] in
/-- The two reshapes change no other array. -/
theorem V1_other (d : Dev nD) (r : Ref sig .tc) (h0 : r ≠ main_v0) (h1 : r ≠ main_v1) : V1 m d (arr r) = m ((SparseCore.T d).loc r) := by
  unfold V1
  rw [reshape_result_ne (h := h1), reshape_result_ne (h := h0)]
  rfl

/-- The call leaves the pooled values. -/
theorem V2_pooled (d : Dev nD) : V2 m d (arr main_v2_0) = pooledG (rowsIn m d) (weightsIn m d) :=
  (Function.update_of_ne (show arr main_v2_0 ≠ arr main_v2_1 by decide) _ _).trans (Function.update_self _ _ _)
/-- The call leaves the means. -/
theorem V2_means (d : Dev nD) : V2 m d (arr main_v2_1) = meansG (weightsIn m d) := Function.update_self _ _ _
/-- The call changes no other array. -/
theorem V2_other (d : Dev nD) (r : Ref sig .tc) (h0 : arr r ≠ arr main_v2_0) (h1 : arr r ≠ arr main_v2_1) : V2 m d (arr r) = V1 m d (arr r) :=
  (Function.update_of_ne h1 _ _).trans (Function.update_of_ne h0 _ _)

/-- The first result at the end. -/
theorem V3_pooled (d : Dev nD) : V3 m d (arr main_v3) = pooledOut m d := by
  unfold V3
  rw [reshape_result_ne (h := by decide), reshape_result, V2_pooled]
  rfl
/-- The second result at the end. -/
theorem V3_means (d : Dev nD) : V3 m d (arr main_v4) = meansOut m d := by
  unfold V3
  rw [reshape_result, reshape_result_ne (h := by decide), V2_means]
  rfl
/-- An argument is at the end what it was at the launch. -/
theorem V3_arg (d : Dev nD) (r : Ref sig .tc) (h : arr r ≠ arr main_v2_0 ∧ arr r ≠ arr main_v2_1)
    (h' : r ≠ main_v0 ∧ r ≠ main_v1 ∧ r ≠ main_v3 ∧ r ≠ main_v4) : V3 m d (arr r) = m ((SparseCore.T d).loc r) := by
  unfold V3
  rw [reshape_result_ne (h := h'.2.2.2), reshape_result_ne (h := h'.2.2.1), V2_other m d r h.1 h.2, V1_other m d r h'.1 h'.2.1]

/-! ## The program on the TensorCore -/

/-- What the program leaves: the arguments as they were, the two results. -/
abbrev FIN (d : Dev nD) : sProp 𝕄 :=
  iprop(at9 d main_arg0 (m ((SparseCore.T d).loc main_arg0)) ∗ at9 d main_arg1 (m ((SparseCore.T d).loc main_arg1))
    ∗ at9 d main_arg2 (m ((SparseCore.T d).loc main_arg2)) ∗ at9 d main_v3 (pooledOut m d) ∗ at9 d main_v4 (meansOut m d))

/-- The nine arrays at the end give the arguments and the results. -/
theorem held_end (d : Dev nD) : (held (SparseCore.T d) S9 (V3 m d) : sProp 𝕄) ⊢ FIN m d := by
  rw [held_S9, V3_arg m d main_arg0 (by decide) (by decide), V3_arg m d main_arg1 (by decide) (by decide),
    V3_arg m d main_arg2 (by decide) (by decide), V3_pooled, V3_means]
  iintro ⟨H0, H1, H2, -, -, -, -, Hp, Ha⟩
  isplitl [H0]; · iexact H0
  isplitl [H1]; · iexact H1
  isplitl [H2]; · iexact H2
  isplitl [Hp]; · iexact Hp
  iexact Ha

/-- Before the call: the call's four arrays, and the others. -/
theorem held_before (d : Dev nD) : (held (SparseCore.T d) S9 (V1 m d) : sProp 𝕄)
    ⊢ iprop((at9 d main_v0 (rowsIn m d) ∗ at9 d main_v1 (weightsIn m d) ∗ at9 d main_v2_0 (m ((SparseCore.T d).loc main_v2_0))
        ∗ at9 d main_v2_1 (m ((SparseCore.T d).loc main_v2_1)))
      ∗ at9 d main_arg0 (V1 m d (arr main_arg0)) ∗ at9 d main_arg1 (V1 m d (arr main_arg1)) ∗ at9 d main_arg2 (V1 m d (arr main_arg2))
      ∗ at9 d main_v3 (V1 m d (arr main_v3)) ∗ at9 d main_v4 (V1 m d (arr main_v4))) := by
  rw [held_S9, V1_rows, V1_weights, V1_other m d main_v2_0 (by decide) (by decide), V1_other m d main_v2_1 (by decide) (by decide)]
  iintro ⟨H0, H1, H2, Hx, Hw, Hp, Ha, H3, H4⟩
  isplitl [Hx Hw Hp Ha]
  · isplitl [Hx]; · iexact Hx
    isplitl [Hw]; · iexact Hw
    isplitl [Hp]; · iexact Hp
    iexact Ha
  isplitl [H0]; · iexact H0
  isplitl [H1]; · iexact H1
  isplitl [H2]; · iexact H2
  isplitl [H3]; · iexact H3
  iexact H4

/-- After the call: the same arrays, the results in the call's last two. -/
theorem held_after (d : Dev nD) :
    iprop((at9 d main_v0 (rowsIn m d) ∗ at9 d main_v1 (weightsIn m d) ∗ at9 d main_v2_0 (pooledG (rowsIn m d) (weightsIn m d))
        ∗ at9 d main_v2_1 (meansG (weightsIn m d)))
      ∗ at9 d main_arg0 (V1 m d (arr main_arg0)) ∗ at9 d main_arg1 (V1 m d (arr main_arg1)) ∗ at9 d main_arg2 (V1 m d (arr main_arg2))
      ∗ at9 d main_v3 (V1 m d (arr main_v3)) ∗ at9 d main_v4 (V1 m d (arr main_v4)))
    ⊢ (held (SparseCore.T d) S9 (V2 m d) : sProp 𝕄) := by
  rw [held_S9, V2_pooled, V2_means, V2_other m d main_arg0 (by decide) (by decide), V2_other m d main_arg1 (by decide) (by decide),
    V2_other m d main_arg2 (by decide) (by decide), V2_other m d main_v0 (by decide) (by decide), V2_other m d main_v1 (by decide) (by decide),
    V2_other m d main_v3 (by decide) (by decide), V2_other m d main_v4 (by decide) (by decide), V1_rows, V1_weights]
  iintro ⟨⟨Hx, Hw, Hp, Ha⟩, H0, H1, H2, H3, H4⟩
  isplitl [H0]; · iexact H0
  isplitl [H1]; · iexact H1
  isplitl [H2]; · iexact H2
  isplitl [Hx]; · iexact Hx
  isplitl [Hw]; · iexact Hw
  isplitl [Hp]; · iexact Hp
  isplitl [Ha]; · iexact Ha
  isplitl [H3]; · iexact H3
  iexact H4

/-- The operation's arrays are among the nine. -/
theorem subX : (opX (F := F)).bufs ⊆ S9 := show ({arr main_arg0, arr main_v0} : Finset (DevRef τ sig)) ⊆ S9 by decide
/-- The same of the weights' reshape. -/
theorem subW : (opW (F := F)).bufs ⊆ S9 := show ({arr main_arg1, arr main_v1} : Finset (DevRef τ sig)) ⊆ S9 by decide
/-- The same of the pooled values' reshape. -/
theorem subP : (opP (F := F)).bufs ⊆ S9 := show ({arr main_v2_0, arr main_v3} : Finset (DevRef τ sig)) ⊆ S9 by decide
/-- The same of the means' reshape. -/
theorem subA : (opA (F := F)).bufs ⊆ S9 := show ({arr main_v2_1, arr main_v4} : Finset (DevRef τ sig)) ⊆ S9 by decide

/-- The program on device `d`'s TensorCore. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [show (unscopedBufs d (fun b => m ((SparseCore.T d).loc b)) : sProp 𝕄) = held (SparseCore.T d) S9 (V0 m d) from unscopedBufs_S9 d (V0 m d)]
  simp only [main, wp_bind, wp_pure]
  iintro ⟨#Hctx, Hst, ⟨Hb, Hheld, Hts, -⟩, -⟩
  iapply (wp_hlo_within 𝒱 (SparseCore.T d) none Set.univ (op := opX) (S := S9) subX (V := V0 m d)) $$ [Hb Hheld]
  · isplitl [Hb] <;> iassumption
  iintro ⟨Hb, Hheld⟩
  rw [wp_ret]; imodintro
  iapply (wp_hlo_within 𝒱 (SparseCore.T d) none Set.univ (op := opW) (S := S9) subW (V := opX.result (V0 m d))) $$ [Hb Hheld]
  · isplitl [Hb] <;> iassumption
  iintro ⟨Hb, Hheld⟩
  rw [wp_ret]; imodintro
  ihave Hh := (show held (SparseCore.T d) S9 (opW.result (opX.result (V0 m d))) ⊢ _ from held_before m d) $$ Hheld
  icases Hh with ⟨Hcall, Hrest⟩
  iapply ((K (F := F)).wp_run (D (F := F)) 𝒱 (EH := EH) (P := P m) κ d 0) $$ [Hst Hcall Hb Hrest Hts]
  isplitr; · iexact Hctx
  isplitl [Hst]; · iexact Hst
  isplitl [Hcall]
  · rw [given]; iexact Hcall
  iintro ⟨Hst, Hdn⟩
  ihave Hdn' := (Entails.of_eq (taken m d)) $$ Hdn
  ihave Hheld := (held_after m d) $$ [Hdn' Hrest]
  · isplitl [Hdn']; · iexact Hdn'
    iexact Hrest
  iapply (wp_hlo_within 𝒱 (SparseCore.T d) none Set.univ (op := opP) (S := S9) subP (V := V2 m d)) $$ [Hb Hheld]
  · isplitl [Hb] <;> iassumption
  iintro ⟨Hb, Hheld⟩
  rw [wp_ret]; imodintro
  iapply (wp_hlo_within 𝒱 (SparseCore.T d) none Set.univ (op := opA) (S := S9) subA (V := opP.result (V2 m d))) $$ [Hb Hheld]
  · isplitl [Hb] <;> iassumption
  iintro ⟨Hb, Hheld⟩
  rw [wp_ret]; imodintro; imodintro
  isplitl [Hst]; · iexact Hst
  isplitl [Hheld]
  · iapply (show held (SparseCore.T d) S9 (opA.result (opP.result (V2 m d))) ⊢ _ from held_end m d); iexact Hheld
  isplitl [Hb] <;> iassumption

/-! ## The final states -/

/-- What a final state holds of device `d`. -/
def fq (d : Dev nD) (s' : Phys nD τ sig (Elt F)) : Prop :=
  s'.mem.mem ((SparseCore.T d).loc main_arg0) = m ((SparseCore.T d).loc main_arg0)
    ∧ s'.mem.mem ((SparseCore.T d).loc main_arg1) = m ((SparseCore.T d).loc main_arg1)
    ∧ s'.mem.mem ((SparseCore.T d).loc main_arg2) = m ((SparseCore.T d).loc main_arg2)
    ∧ s'.mem.mem ((SparseCore.T d).loc main_v3) = pooledOut m d
    ∧ s'.mem.mem ((SparseCore.T d).loc main_v4) = meansOut m d

omit [FloatOps F] in
/-- An array held whole is what the state's memory has there. -/
theorem at9_state (d : Dev nD) (s' : Phys nD τ sig (Elt F)) (r : Ref sig .tc) (f : Buf (Elt F) ((SparseCore.T d : Thread nD τ).loc r)) :
    iprop(at9 d r f ∗ SI s') ⊢ (iprop(⌜s'.mem.mem ((SparseCore.T d).loc r) = f⌝ ∗ SI s') : sProp 𝕄) := by
  iintro ⟨H, HSI⟩
  ihave H := (persistent_entails_right (SI_pointsTo_agree (st := s') (ℓ := (SparseCore.T d).loc r) (I := Finset.univ)
    (q := fullShare) (f := f))) $$ [HSI H]
  · isplitl [HSI] <;> iassumption
  icases H with ⟨%h, HSI, -⟩
  isplitr
  · ipureintro; exact funext fun i => h i (Finset.mem_univ i)
  · iexact HSI

/-- What the program holds at its end is so in the final memory. -/
theorem hfin (d : Dev nD) (s' : Phys nD τ sig (Elt F)) : iprop(FIN m d ∗ SI s') ⊢ (⌜fq m d s'⌝ : sProp 𝕄) := by
  iintro ⟨⟨H0, H1, H2, Hp, Ha⟩, HSI⟩
  ihave H := (at9_state d s' main_arg0 _) $$ [H0 HSI]
  · isplitl [H0] <;> iassumption
  icases H with ⟨%h0, HSI⟩
  ihave H := (at9_state d s' main_arg1 _) $$ [H1 HSI]
  · isplitl [H1] <;> iassumption
  icases H with ⟨%h1, HSI⟩
  ihave H := (at9_state d s' main_arg2 _) $$ [H2 HSI]
  · isplitl [H2] <;> iassumption
  icases H with ⟨%h2, HSI⟩
  ihave H := (at9_state d s' main_v3 _) $$ [Hp HSI]
  · isplitl [Hp] <;> iassumption
  icases H with ⟨%hp, HSI⟩
  ihave H := (at9_state d s' main_v4 _) $$ [Ha HSI]
  · isplitl [Ha] <;> iassumption
  icases H with ⟨%ha, -⟩
  ipureintro; exact ⟨h0, h1, h2, hp, ha⟩

/-- The arguments unchanged and the two results, on every device, and every semaphore back at zero. -/
def QC : PUnit × MemSt nD τ sig (Elt F) → Prop := fun r =>
  (∀ c : Dev nD, r.2.mem ((SparseCore.T c).loc main_arg0) = m ((SparseCore.T c).loc main_arg0)
    ∧ r.2.mem ((SparseCore.T c).loc main_arg1) = m ((SparseCore.T c).loc main_arg1)
    ∧ r.2.mem ((SparseCore.T c).loc main_arg2) = m ((SparseCore.T c).loc main_arg2)
    ∧ r.2.mem ((SparseCore.T c).loc main_v3) = pooledOut m c
    ∧ r.2.mem ((SparseCore.T c).loc main_v4) = meansOut m c) ∧ r.2.sem = fun _ => 0

/-- Every run of the program ends so. -/
theorem run_main [∀ e, Nonempty (Elt F e)] :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m)
    (fun _ h hz => ⟨h, hz⟩)

end Cert.Proof.Tile

end
-- ==== Proof.KernelFrame.lean ====
/- The frame of the program at the machine's floats: the two printed programs are the same text, so the run
   of the one, generic in the floats, is the run of the other. -/
module

public import proofs.«01_k».proof.Proof.Launch
public import proofs.«01_k».proof.Proof.Gen.Kernel

@[expose] public section

noncomputable section

namespace Cert.Proof

open Idealize.ShloMosaic Idealize.SL.Sem

/-- The program as printed first and the program as printed for the ideal floats run alike. -/
theorem same_run (s : MemSt Cert.Kernel.nD Cert.Kernel.τ Cert.Kernel.sig (Elt Bits)) :
    θ_run (Cert.Kernel.defs (F := Bits)) (Cert.Kernel.threads (F := Bits)) s
      = θ_run (Cert.KernelIdeal.defs (F := Bits)) (Cert.KernelIdeal.threads (F := Bits)) s := rfl

/-- The program at the machine's floats ends with its arguments unchanged and every semaphore at zero. -/
theorem kernel_frame : Cert.quiescent_Kernel := fun m ρ _ => by
  rw [same_run]
  exact (θ_run (Cert.KernelIdeal.defs (F := Bits)) _ _).mono
    (fun _ h => ⟨fun c => ⟨(h.1 c).1, (h.1 c).2.1, (h.1 c).2.2.1⟩, h.2⟩) (Tile.run_main (F := Bits) m ρ)

end Cert.Proof

end
-- ==== Proof.RefTerms.lean ====
/- The reference's two results as functions of its three arguments, cut into named parts: the fixed-up index
   table, the mask of indices in range, the rows and the weights taken, and the two quotients. -/
module

public import proofs.«01_k».proof.Proof.Gen.ReferenceIdeal

@[expose] public section

noncomputable section

namespace Cert.Proof.Ref

open Cert.ReferenceIdeal Cert.ReferenceIdeal.Gen Idealize.ShloMosaic

variable {F : FTy → Type} [FloatOps F]

/-- The index table with the length of the row axis added to its negative entries. -/
def wrapped (G : IVec S49152x4 32) : IVec S49152x4 32 :=
  select (cmpi .slt G (broadcastInDim S49152x4 ![] bcast_S_S49152x4 (constantI S_ 32 0#32)))
    (addi G (broadcastInDim S49152x4 ![] bcast_S_S49152x4 (constantI S_ 32 196608#32))) G

/-- The same table with a last axis of length one: the start indices of the two reads. -/
def starts (G : IVec S49152x4 32) : IVec S49152x4x1 32 :=
  broadcastInDim S49152x4x1 ![0, 1] bcast_S49152x4_S49152x4x1_0_1 (wrapped G)

/-- Which entries of the table are rows of the arrays. -/
def inRange (G : IVec S49152x4 32) : IVec S49152x4 1 :=
  Host.reduce IntOp.andi
    (andi (cmpi .sge (starts G) (broadcastInDim S49152x4x1 ![] bcast_S_S49152x4x1 (constantI S_ 32 0#32)))
      (cmpi .sle (starts G) (broadcastInDim S49152x4x1 ![0, 1, 2] bcast_S1x1x1_S49152x4x1_0_1_2
        (broadcastInDim S1x1x1 ![2] bcast_S1_S1x1x1_2 (constantI S1 32 196607#32)))))
    (constantI S_ 1 1#1) reducesTo_S49152x4x1_S49152x4_d2 h_S_

/-- The rows the table names, a fixed fill where an entry is out of range. -/
def rowsTaken (X : FVec F S2x196608x128 .f32) (G : IVec S49152x4 32) : FVec F S2x49152x4x128 .f32 :=
  select (broadcastInDim S2x49152x4x128 ![1, 2] bcast_S49152x4_S2x49152x4x128_1_2 (inRange G))
    (Host.gather gather_S2x196608x128_S49152x4x1_S2x49152x4x128_03_1_n_n_1_2_21128 X (starts G))
    (broadcastInDim S2x49152x4x128 ![] bcast_S_S2x49152x4x128 (constant S_ .f32 0x7FC00000#32))

/-- The weights the table names, a fixed fill where an entry is out of range. -/
def weightsTaken (W : FVec F S2x196608x1 .f32) (G : IVec S49152x4 32) : FVec F S2x49152x4x1 .f32 :=
  select (broadcastInDim S2x49152x4x1 ![1, 2] bcast_S49152x4_S2x49152x4x1_1_2 (inRange G))
    (Host.gather gather_S2x196608x1_S49152x4x1_S2x49152x4x1_03_1_n_n_1_2_211 W (starts G))
    (broadcastInDim S2x49152x4x1 ![] bcast_S_S2x49152x4x1 (constant S_ .f32 0x7FC00000#32))

/-- The sum of each group's weights. -/
def weightSums (W : FVec F S2x196608x1 .f32) (G : IVec S49152x4 32) : FVec F S2x49152x1 .f32 :=
  Host.reduceAdd (weightsTaken W G) (constant S_ .f32 0x00000000#32) reducesTo_S2x49152x4x1_S2x49152x1_d2 h_S_

/-- The sums with the reduced axis kept at length one. -/
def keptSums (W : FVec F S2x196608x1 .f32) (G : IVec S49152x4 32) : FVec F S2x49152x1x1 .f32 :=
  broadcastInDim S2x49152x1x1 ![0, 1, 3] bcast_S2x49152x1_S2x49152x1x1_0_1_3 (weightSums W G)

/-- The sum of each group's rows, each row times its weight. -/
def rowSums (X : FVec F S2x196608x128 .f32) (W : FVec F S2x196608x1 .f32) (G : IVec S49152x4 32) :
    FVec F S2x49152x128 .f32 :=
  Host.reduceAdd
    (mulf (rowsTaken X G)
      (broadcastInDim S2x49152x4x128 ![0, 1, 2, 3] bcast_S2x49152x4x1_S2x49152x4x128_0_1_2_3 (weightsTaken W G)))
    (constant S_ .f32 0x00000000#32) reducesTo_S2x49152x4x128_S2x49152x128_d2 h_S_

/-- The first result: each group's weighted rows over its weight, the weight held from below. -/
def pooled (X : FVec F S2x196608x128 .f32) (W : FVec F S2x196608x1 .f32) (G : IVec S49152x4 32) :
    FVec F S2x49152x128 .f32 :=
  Host.divf (rowSums X W G)
    (broadcastInDim S2x49152x128 ![0, 1, 2] bcast_S2x49152x1_S2x49152x128_0_1_2
      (shapeCast S2x49152x1
        (maximumf (keptSums W G)
          (broadcastInDim S2x49152x1x1 ![] bcast_S_S2x49152x1x1 (constant S_ .f32 0x358637BD#32)))
        shapeCasts_S2x49152x1x1_S2x49152x1))

/-- The second result: each group's weight over four. -/
def means (W : FVec F S2x196608x1 .f32) (G : IVec S49152x4 32) : FVec F S2x49152x1 .f32 :=
  shapeCast S2x49152x1
    (Host.divf (keptSums W G)
      (broadcastInDim S2x49152x1x1 ![] bcast_S_S2x49152x1x1 (constant S_ .f32 0x40800000#32)))
    shapeCasts_S2x49152x1x1_S2x49152x1

end Cert.Proof.Ref

end
-- ==== Proof.RefTake.lean ====
/- The reference's reads at an element, where the index table is the nested one: entry `(i, j)` is row `4i + j`. -/
module

public import proofs.«01_k».proof.Proof.RefTerms
public import Idealize.ShloMosaic.Lib.Pointwise
public import Idealize.ShloMosaic.Lib.ReduceAll
public import Idealize.ShloMosaic.Lib.StableHlo.Predicate

@[expose] public section

noncomputable section

namespace Cert.Proof.Ref

open Cert.ReferenceIdeal Cert.ReferenceIdeal.Gen Idealize.ShloMosaic
open Idealize.ShloMosaic.StableHlo.Predicate (slt_iff_toNat sge_iff_toNat sle_iff_toNat)

variable {F : FTy → Type} [FloatOps F]

/-- The nested table: entry `(i, j)` is the word of `4i + j`. -/
def IsNested (G : IVec S49152x4 32) : Prop :=
  ∀ (i : Fin 49152) (j : Fin 4), G (ix2 i j) = BitVec.ofNat 32 (4 * i.val + j.val)

/-- A number below 196608 is its word's value. -/
theorem row_toNat {n : ℕ} (h : n < 196608) : (BitVec.ofNat 32 n).toNat = n := by
  rw [BitVec.toNat_ofNat]; omega

/-- A word of a number below 196608, read signed, is not negative. -/
theorem row_not_neg {n : ℕ} (h : n < 196608) : IntOp.cmpi .slt (BitVec.ofNat 32 n) 0#32 ≠ 1#1 := by
  rw [Ne, slt_iff_toNat (by rw [row_toNat h]; omega) (by decide)]
  exact Nat.not_lt_zero _

/-- Such a word is at least zero and at most 196607, read signed. -/
theorem row_in {n : ℕ} (h : n < 196608) : IntOp.andi (IntOp.cmpi .sge (BitVec.ofNat 32 n) 0#32)
    (IntOp.cmpi .sle (BitVec.ofNat 32 n) 196607#32) = 1#1 := by
  rw [(sge_iff_toNat (by rw [row_toNat h]; omega) (by decide)).2 (Nat.zero_le _),
    (sle_iff_toNat (by rw [row_toNat h]; omega) (by decide)).2 (by rw [row_toNat h]; simp; omega)]
  rfl

/-- Such a word read signed is the number. -/
theorem row_toInt {n : ℕ} (h : n < 196608) : (BitVec.ofNat 32 n).toInt.toNat = n := by
  rw [BitVec.toInt_eq_toNat_of_lt (by rw [row_toNat h]; omega), row_toNat h]; rfl

/-- Row `4i + j` is one of the 196608. -/
theorem row_lt (i : Fin 49152) (j : Fin 4) : 4 * i.val + j.val < 196608 := by omega

section

variable {G : IVec S49152x4 32} (hG : IsNested G)

include hG in
/-- No entry is negative, so none is moved. -/
theorem wrapped_at (i : Fin 49152) (j : Fin 4) : wrapped G (ix2 i j) = BitVec.ofNat 32 (4 * i.val + j.val) := by
  pointwise [wrapped]
  rw [hG i j]
  exact if_neg (row_not_neg (row_lt i j))

include hG in
/-- The start index of entry `(i, j)` is row `4i + j`. -/
theorem starts_at (i : Fin 49152) (j : Fin 4) (k : Fin 1) :
    starts G (ix3 i j k) = BitVec.ofNat 32 (4 * i.val + j.val) := by
  pointwise [starts]
  exact wrapped_at hG i j

include hG in
/-- Every entry is in range. -/
theorem inRange_at (y : S49152x4.Idx) : inRange G y = 1#1 := by
  refine Host.reduce_andi_one _ _ _ _ _ rfl fun z => ?_
  pointwise
  rw [show starts G z = BitVec.ofNat 32 (4 * (z 0).val + (z 1).val) from
    (congrArg (starts G) (eq_ix3 z)).trans (starts_at hG (z 0) (z 1) (z 2))]
  exact row_in (row_lt (z 0) (z 1))

end

/-- The read along the middle axis of a `[2, 196608, C]` array at a `[49152, 4]` table of start indices. -/
abbrev middleDims (C : ℕ) (wf : GatherDims.WF ⟨3, ![2, 196608, C]⟩ S49152x4x1 ⟨4, ![2, 49152, 4, C]⟩
    [0, 3] [1] [] [1] [] 2 ![2, 1, C]) :
    GatherDims ⟨3, ![2, 196608, C]⟩ S49152x4x1 ⟨4, ![2, 49152, 4, C]⟩ where
  offsetDims := [0, 3]
  collapsedSliceDims := [1]
  operandBatchingDims := []
  startIndicesBatchingDims := []
  startIndexMap := [1]
  indexVectorDim := 2
  sliceSizes := ![2, 1, C]
  wf := wf

/-- That read at `(b, i, j, c)`: the array at batch `b`, column `c`, and the row the table names at `(i, j)`. -/
theorem middle_at {α : Type} {C : ℕ} (wf : GatherDims.WF ⟨3, ![2, 196608, C]⟩ S49152x4x1 ⟨4, ![2, 49152, 4, C]⟩
    [0, 3] [1] [] [1] [] 2 ![2, 1, C]) (x : (⟨3, ![2, 196608, C]⟩ : Shape).Idx → α) (idx : IVec S49152x4x1 32)
    (b : Fin 2) (i : Fin 49152) (j : Fin 4) (c : Fin C) (r : ℕ) (hr : r < 196608)
    (h : idx (ix3 i j (0 : Fin 1)) = BitVec.ofNat 32 r) :
    Host.gather (middleDims C wf) x idx (ix4 b i j c) = x (ix3 b ⟨r, hr⟩ c) := by
  unfold Host.gather
  refine congrArg x (funext fun a => Fin.ext ?_)
  match a with
  | ⟨0, _⟩ =>
    show (middleDims C wf).start (ix4 b i j c) idx 0 + (middleDims C wf).batchCoord (ix4 b i j c) 0
      + (middleDims C wf).offCoord (ix4 b i j c) 0 = b.val
    rw [GatherDims.batchCoord_eq_zero _ _ _ List.not_mem_nil]
    unfold GatherDims.start GatherDims.offCoord
    rw [dif_neg (show (0 : Fin 3) ∉ [1] by decide),
      dif_pos ((GatherDims.mem_sKept _ _).2 ⟨show (0 : Fin 3) ∉ [1] by decide, List.not_mem_nil⟩)]
    show 0 + 0 + b.val = b.val
    omega
  | ⟨1, _⟩ =>
    have hm : (1 : Fin 3) ∈ [(1 : Fin 3)] := List.mem_singleton.2 rfl
    show (middleDims C wf).start (ix4 b i j c) idx 1 + (middleDims C wf).batchCoord (ix4 b i j c) 1
      + (middleDims C wf).offCoord (ix4 b i j c) 1 = r
    rw [GatherDims.batchCoord_eq_zero _ _ _ List.not_mem_nil]
    unfold GatherDims.start GatherDims.offCoord
    rw [dif_pos hm, dif_neg (fun e => ((GatherDims.mem_sKept _ _).1 e).1 hm)]
    have hs : (middleDims C wf).siIdx (ix4 b i j c) ⟨List.idxOf (1 : Fin 3) (middleDims C wf).startIndexMap,
        List.idxOf_lt_length_iff.2 hm⟩ = ix3 i j (0 : Fin 1) := by
      funext q
      refine Fin.ext ?_
      match q with
      | ⟨0, _⟩ => rfl
      | ⟨1, _⟩ => rfl
      | ⟨2, _⟩ => rfl
    show min (idx ((middleDims C wf).siIdx (ix4 b i j c) ⟨List.idxOf (1 : Fin 3) (middleDims C wf).startIndexMap,
        List.idxOf_lt_length_iff.2 hm⟩)).toInt.toNat (196608 - 1) + 0 + 0 = r
    rw [hs, h, row_toInt hr]
    omega
  | ⟨2, _⟩ =>
    show (middleDims C wf).start (ix4 b i j c) idx 2 + (middleDims C wf).batchCoord (ix4 b i j c) 2
      + (middleDims C wf).offCoord (ix4 b i j c) 2 = c.val
    rw [GatherDims.batchCoord_eq_zero _ _ _ List.not_mem_nil]
    unfold GatherDims.start GatherDims.offCoord
    rw [dif_neg (show (2 : Fin 3) ∉ [1] by decide),
      dif_pos ((GatherDims.mem_sKept _ _).2 ⟨show (2 : Fin 3) ∉ [1] by decide, List.not_mem_nil⟩)]
    show 0 + 0 + c.val = c.val
    omega

section

variable {G : IVec S49152x4 32} (hG : IsNested G)

include hG in
/-- The rows taken: entry `(b, i, j, c)` is row `4i + j`'s. -/
theorem rowsTaken_at (X : FVec F S2x196608x128 .f32) (b : Fin 2) (i : Fin 49152) (j : Fin 4) (c : Fin 128) :
    rowsTaken X G (ix4 b i j c) = X (ix3 b ⟨4 * i.val + j.val, row_lt i j⟩ c) := by
  pointwise [rowsTaken]
  rw [inRange_at hG]
  exact (if_pos rfl).trans (middle_at _ X _ b i j c _ (row_lt i j) (starts_at hG i j 0))

include hG in
/-- The weights taken: entry `(b, i, j)` is row `4i + j`'s. -/
theorem weightsTaken_at (W : FVec F S2x196608x1 .f32) (b : Fin 2) (i : Fin 49152) (j : Fin 4) (k : Fin 1) :
    weightsTaken W G (ix4 b i j k) = W (ix3 b ⟨4 * i.val + j.val, row_lt i j⟩ k) := by
  pointwise [weightsTaken]
  rw [inRange_at hG]
  exact (if_pos rfl).trans (middle_at _ W _ b i j k _ (row_lt i j) (starts_at hG i j 0))

end

end Cert.Proof.Ref

end
-- ==== Proof.Equation.lean ====
/- The equation over the extended reals: the reference's two results at an element are the group's weighted mean
   and the group's mean weight, as the kernel computes them. -/
module

public import proofs.«01_k».proof.Proof.RefTake
public import proofs.«01_k».proof.Proof.Pool
public import Idealize.ShloMosaic.Lib.IdealHost

@[expose] public section

noncomputable section

namespace Cert.Proof.Ref

open Cert.ReferenceIdeal Cert.ReferenceIdeal.Gen Idealize.ShloMosaic
open Cert.Proof.Pool

/-! ## The three constants -/

/-- The kernel's factor is a quarter. -/
theorem quarter_word : Ideal.ofBits .f32 0x3E800000#32 = (((1 : ℝ) / 4 : ℝ) : EReal) := by
  simp [Ideal.ofBits, Ideal.ieee, -EReal.coe_mul]; norm_num

/-- The reference's divisor is four. -/
theorem four_word : Ideal.ofBits .f32 0x40800000#32 = ((4 : ℝ) : EReal) := by
  simp [Ideal.ofBits, Ideal.ieee, -EReal.coe_mul]; norm_num

/-- The bound that holds a group's weight from below is positive. -/
theorem floor_word_pos : 0 < Ideal.ofBits .f32 0x358637BD#32 := by
  simp [Ideal.ofBits, Ideal.ieee, -EReal.coe_mul]

/-! ## The scalar laws -/

/-- A sum over four is the two pairs' sums added. -/
theorem sum_four (f : Fin 4 → EReal) : ∑ j, f j = (f 0 + f 1) + (f 2 + f 3) := by
  rw [Fin.sum_univ_four, add_assoc (f 0 + f 1)]

/-- A value times a quarter is the value over four. -/
theorem mul_quarter (a : EReal) :
    a * Ideal.ofBits .f32 0x3E800000#32 = Ideal.div a (Ideal.ofBits .f32 0x40800000#32) := by
  rw [quarter_word, four_word, Ideal.div_coe (by norm_num)]

/-! ## The reference's results -/

section

variable {G : IVec S49152x4 32} (hG : IsNested G) (X : FVec Ideal S2x196608x128 .f32)
  (W : FVec Ideal S2x196608x1 .f32) (x : ℕ → ℕ → Ideal .f32) (w : ℕ → Ideal .f32) (b : Fin 2) (i : Fin 49152) (g : ℕ)
  (hw : ∀ j : Fin 4, W (ix3 b ⟨4 * i.val + j.val, row_lt i j⟩ (0 : Fin 1)) = w (4 * g + j.val))

include hG hw in
/-- The kept sum of a group's weights is the sum of its four, added in pairs. -/
theorem keptSums_at (k l : Fin 1) : keptSums W G (ix4 b i k l) = weightSum w g := by
  pointwise [keptSums, weightSums]
  rw [sum_four]
  simp only [weightsTaken_at hG, hw]
  rfl

include hG hw in
/-- The reference's mean of the weights of group `(b, i)` is the kernel's of group `g`. -/
theorem means_at (k : Fin 1) : means W G (ix3 b i k) = meanAt w g := by
  pointwise [means]
  rw [keptSums_at hG W w b i g hw]
  exact (mul_quarter _).symm

include hG hw in
/-- The reference's pooled value of group `(b, i)` in column `c` is the kernel's of group `g`. -/
theorem pooled_at (c : Fin 128)
    (hx : ∀ j : Fin 4, X (ix3 b ⟨4 * i.val + j.val, row_lt i j⟩ c) = x (4 * g + j.val) c.val) :
    pooled X W G (ix3 b i c) = pooledAt x w g c.val := by
  pointwise [pooled, rowSums]
  rw [keptSums_at hG W w b i g hw, sum_four]
  simp only [weightsTaken_at hG, rowsTaken_at hG, hw, hx]
  rw [← Ideal.mul_one_div (lt_of_lt_of_le floor_word_pos (le_max_right _ _)).ne', ← Ideal.ofBits_one_f32]
  rfl

end

end Cert.Proof.Ref

end
-- ==== Proof.Results.lean ====
/- The kernel's two results over the extended reals are the reference's, where the index table is the nested one:
   group `i` of batch `b` is group `49152b + i` of the flat arrays. -/
module

public import proofs.«01_k».proof.Proof.Equation
public import proofs.«01_k».proof.Proof.Launch

@[expose] public section

noncomputable section

namespace Cert.Proof

open Cert.KernelIdeal Cert.KernelIdeal.Gen Idealize.ShloMosaic Idealize.SL.Sem
open Cert.Proof.Tile Cert.Proof.Pool

/-! ## The flat arrays at an element -/

section

variable {F : FTy → Type} [FloatOps F]

/-- The rows laid flat: row `n` of batch `b` is row `196608b + n`. -/
theorem flat_rows (X : S2x196608x128.Idx → Elt F .f32) (r : Fin 393216) (c : Fin 128) :
    shapeCast S393216x128 X shapeCasts_S2x196608x128_S393216x128 (ix2 r c)
      = X (ix3 ⟨r.val / 196608, by omega⟩ ⟨r.val % 196608, Nat.mod_lt _ (by norm_num)⟩ c) := by
  pointwise

/-- The weights laid flat: the same. -/
theorem flat_weights (W : S2x196608x1.Idx → Elt F .f32) (r : Fin 393216) :
    shapeCast S393216 W shapeCasts_S2x196608x1_S393216 (ix1 r)
      = W (ix3 ⟨r.val / 196608, by omega⟩ ⟨r.val % 196608, Nat.mod_lt _ (by norm_num)⟩ (0 : Fin 1)) := by
  pointwise

end

variable (m : (ℓ : Loc nD τ sig) → Buf (Elt Ideal) ℓ) (d : Dev nD)

/-- The first argument on a device. -/
abbrev argX : S2x196608x128.Idx → Elt Ideal .f32 := m ((SparseCore.T d).loc main_arg0)
/-- The second argument. -/
abbrev argW : S2x196608x1.Idx → Elt Ideal .f32 := m ((SparseCore.T d).loc main_arg1)
/-- The third argument, the index table. -/
abbrev argG : S49152x4.Idx → BitVec 32 := m ((SparseCore.T d).loc main_arg2)

/-- Row `4i + j` of batch `b` is row `4(49152b + i) + j` of the flat array. -/
theorem rows_at (b : Fin 2) (i : Fin 49152) (j : Fin 4) (c : Fin 128) :
    argX m d (ix3 b ⟨4 * i.val + j.val, Ref.row_lt i j⟩ c)
      = rowsOf (rowsIn m d) (4 * (49152 * b.val + i.val) + j.val) c.val := by
  refine Eq.symm ((flat_rows (argX m d) _ _).trans (congrArg (argX m d) ?_))
  refine (ix3_inj _ _ _ _ _ _).2 ⟨Fin.ext ?_, Fin.ext ?_, Fin.ext ?_⟩ <;> dsimp only <;> omega

/-- The weights likewise. -/
theorem weights_at (b : Fin 2) (i : Fin 49152) (j : Fin 4) :
    argW m d (ix3 b ⟨4 * i.val + j.val, Ref.row_lt i j⟩ (0 : Fin 1))
      = weightsOf (weightsIn m d) (4 * (49152 * b.val + i.val) + j.val) := by
  refine Eq.symm ((flat_weights (argW m d) _).trans (congrArg (argW m d) ?_))
  refine (ix3_inj _ _ _ _ _ _).2 ⟨Fin.ext ?_, Fin.ext ?_, rfl⟩ <;> dsimp only <;> omega

/-- The first result at an element. -/
theorem pooledOut_at (b : Fin 2) (i : Fin 49152) (c : Fin 128) :
    pooledOut m d (ix3 b i c)
      = pooledAt (rowsOf (rowsIn m d)) (weightsOf (weightsIn m d)) (49152 * b.val + i.val) c.val := by
  pointwise [pooledOut, pooledG]
  rw [Nat.mul_comm]

/-- The second result at an element. -/
theorem meansOut_at (b : Fin 2) (i : Fin 49152) (k : Fin 1) :
    meansOut m d (ix3 b i k) = meanAt (weightsOf (weightsIn m d)) (49152 * b.val + i.val) := by
  pointwise [meansOut, meansG]
  rw [Nat.mul_comm]

/-- The first results agree. -/
theorem pooled_eq (hG : Ref.IsNested (argG m d)) :
    Ref.pooled (F := Ideal) (argX m d) (argW m d) (argG m d) = pooledOut m d := by
  have h (b : Fin 2) (i : Fin 49152) (c : Fin 128) :
      Ref.pooled (F := Ideal) (argX m d) (argW m d) (argG m d) (ix3 b i c) = pooledOut m d (ix3 b i c) :=
    (Ref.pooled_at hG _ _ _ _ b i _ (weights_at m d b i) c (fun j => rows_at m d b i j c)).trans
      (pooledOut_at m d b i c).symm
  funext y
  rw [eq_ix3 y]
  exact h _ _ _

/-- The second results agree. -/
theorem means_eq (hG : Ref.IsNested (argG m d)) :
    Ref.means (F := Ideal) (argW m d) (argG m d) = meansOut m d := by
  have h (b : Fin 2) (i : Fin 49152) (k : Fin 1) :
      Ref.means (F := Ideal) (argW m d) (argG m d) (ix3 b i k) = meansOut m d (ix3 b i k) :=
    (Ref.means_at hG _ _ b i _ (weights_at m d b i) k).trans (meansOut_at m d b i k).symm
  funext y
  rw [eq_ix3 y]
  exact h _ _ _

end Cert.Proof

end
-- ==== Proof.RefRun.lean ====
/- The reference's run: its arguments unchanged, its two results the named functions of the arguments, and no
   semaphore left over. -/
module

public import proofs.«01_k».proof.Proof.RefTerms
public import proofs.«01_k».proof.Proof.Gen.ReferenceIdeal.Run
public import Idealize.ShloMosaic.Lib.Quiescent

@[expose] public section

noncomputable section

namespace Cert.Proof.Ref

open Cert.ReferenceIdeal Cert.ReferenceIdeal.Gen Idealize.ShloMosaic Idealize.SL.Sem

variable {F : FTy → Type} [FloatOps F]

/-- What the reference leaves on a device. -/
def Leaves (m : (ℓ : Loc nD τ sig) → Buf (Elt F) ℓ) (r : PUnit × MemSt nD τ sig (Elt F)) (c : Dev nD) : Prop :=
  r.2.mem ((c.tc : Thread nD τ).loc main_v13)
      = pooled (m ((c.tc : Thread nD τ).loc main_arg0)) (m ((c.tc : Thread nD τ).loc main_arg1))
          (m ((c.tc : Thread nD τ).loc main_arg2))
    ∧ r.2.mem ((c.tc : Thread nD τ).loc main_v14)
      = means (m ((c.tc : Thread nD τ).loc main_arg1)) (m ((c.tc : Thread nD τ).loc main_arg2))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)

set_option maxRecDepth 8192 in
/-- Every run of the reference ends so, with every semaphore at zero. -/
theorem run_main (m : (ℓ : Loc nD τ sig) → Buf (Elt F) ℓ) (ρ : Dev nD → PrngReg) :
    θ_run (defs (F := F)) (onTc (τ := τ) (main (F := F))) ⟨m, fun _ => 0, ρ⟩
      fun r => (∀ c : Dev nD, Leaves m r c) ∧ r.2.sem = fun _ => 0 :=
  (θ_run defs _ _).mono
    (fun r h => ⟨fun c => ⟨(h c).1, (h c).2.1, (h c).2.2⟩, sem_eq_zero_of_no_sems (by decide) r.2⟩)
    (Cert.ReferenceIdeal.Value.run m ρ)

end Cert.Proof.Ref

end
-- ==== Proof.Nested.lean ====
/- The precondition read: where the printed predicate is all ones, the index table is the nested one. -/
module

public import proofs.«01_k».proof.Defs
public import proofs.«01_k».proof.Proof.RefTake

@[expose] public section

noncomputable section

namespace Cert.Proof

open Idealize.ShloMosaic

/-- The side conditions of the predicate's operations. -/
instance preFacts : Cert.Pre_nested.Facts where
  shapeCasts_S196608_S49152x4 := by decide
  reducesTo_S49152x4_S_d0_1 := by decide
  h_S_ := by decide

/-- The numbers from zero, laid in rows of four: entry `(i, j)` is `4i + j`. -/
theorem counted_at (i : Fin 49152) (j : Fin 4) :
    shapeCast Cert.Pre_nested.S49152x4 (iotaInDim Cert.Pre_nested.S196608 32 0) preFacts.shapeCasts_S196608_S49152x4
      (ix2 i j) = BitVec.ofNat 32 (4 * i.val + j.val) := by
  pointwise
  rw [Nat.mul_comm]

/-- Where the predicate holds, entry `(i, j)` of the table is `4i + j`. -/
theorem nested_of_pre {F : FTy → Type} [FloatOps F] (X : FVec F Cert.Pre_nested.S2x196608x128 .f32)
    (W : FVec F Cert.Pre_nested.S2x196608x1 .f32) (G : IVec Cert.Pre_nested.S49152x4 32)
    (h : Cert.Pre_nested.fn X W G = fun _ => 1#1) : Ref.IsNested G := by
  intro i j
  have e := congrFun h (Shape.Idx.first preFacts.h_S_)
  have e' := Host.reduce_andi_eq_one _ _ _ _ _ e (ix2 i j) (funext fun a => a.elim0)
  rw [cmpi_apply, StableHlo.Predicate.cmpi_eq_iff] at e'
  exact e'.trans (counted_at i j)

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.KernelFrame
public import proofs.«01_k».proof.Proof.Results
public import proofs.«01_k».proof.Proof.RefRun
public import proofs.«01_k».proof.Proof.Nested

@[expose] public section

noncomputable section

namespace Cert.Proof

open Idealize.ShloMosaic Idealize.SL.Sem

/-- The program at the ideal floats ends with its arguments unchanged and every semaphore at zero. -/
theorem ideal_frame : Cert.quiescent_KernelIdeal := fun m ρ _ =>
  (θ_run (Cert.KernelIdeal.defs (F := Ideal)) _ _).mono
    (fun _ h => ⟨fun c => ⟨(h.1 c).1, (h.1 c).2.1, (h.1 c).2.2.1⟩, h.2⟩) (Tile.run_main (F := Ideal) m ρ)

/-- The reference ends with its arguments unchanged and every semaphore at zero. -/
theorem ref_frame : Cert.quiescent_ReferenceIdeal := fun m ρ _ =>
  (θ_run (Cert.ReferenceIdeal.defs (F := Ideal)) _ _).mono
    (fun _ h => ⟨fun c => (h.1 c).2.2, h.2⟩) (Ref.run_main (F := Ideal) m ρ)

/-- Where the index table is the nested one, both programs leave the same two results. -/
theorem same_results : Cert.algebraic_KernelIdeal_ReferenceIdeal_pre_nested := by
  intro m ρ m' ρ' hpre hargs
  refine ⟨Tile.pooledOut m, Tile.meansOut m, ?_, ?_⟩
  · exact (θ_run (Cert.KernelIdeal.defs (F := Ideal)) _ _).mono
      (fun _ h c => ⟨(h.1 c).2.2.2.1, (h.1 c).2.2.2.2, (h.1 c).1, (h.1 c).2.1, (h.1 c).2.2.1⟩)
      (Tile.run_main (F := Ideal) m ρ)
  · refine (θ_run (Cert.ReferenceIdeal.defs (F := Ideal)) _ _).mono (fun r h c => ?_) (Ref.run_main (F := Ideal) m' ρ')
    have hG : Ref.IsNested (argG m c) := nested_of_pre (F := Ideal) (argX m c) (argW m c) (argG m c) (hpre c)
    obtain ⟨e0, e1, e2⟩ := hargs c
    obtain ⟨h13, h14, hrest⟩ := h.1 c
    refine ⟨h13.trans ?_, h14.trans ?_, hrest⟩
    · rw [e0, e1, e2]; exact pooled_eq m c hG
    · rw [e1, e2]; exact means_eq m c hG

/-- All the claims. -/
theorem claim : Cert.Claim :=
  ⟨Cert.Kernel.Gen.facts, Cert.KernelIdeal.Gen.facts, Cert.ReferenceIdeal.Gen.facts, preFacts,
    kernel_frame, ideal_frame, fun m ρ _ => ideal_frame m ρ trivial, ref_frame, fun m ρ _ => ref_frame m ρ trivial,
    trivial, same_results⟩

end Cert.Proof

end
